-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S5000x64 : Shape := ⟨2, ![5000, 64]⟩
abbrev S30x30 : Shape := ⟨2, ![30, 30]⟩
abbrev S5000x30 : Shape := ⟨2, ![5000, 30]⟩
abbrev S1800x1024 : Shape := ⟨2, ![1800, 1024]⟩
abbrev S1024 : Shape := ⟨1, ![1024]⟩
abbrev S1024x1024 : Shape := ⟨2, ![1024, 1024]⟩
abbrev S1024x1800 : Shape := ⟨2, ![1024, 1800]⟩
abbrev S1800 : Shape := ⟨1, ![1800]⟩
abbrev S2x64x128 : Shape := ⟨3, ![2, 64, 128]⟩
abbrev S1x128 : Shape := ⟨2, ![1, 128]⟩
abbrev S_ : Shape := ⟨0, ![]⟩

class Facts : Prop where
  bcast_S_S5000x64 : S_.BroadcastsInDim S5000x64 (![] : Fin 0 → Fin S5000x64.rank)
  reducesTo_S5000x64_S_d0_1 : S5000x64.ReducesTo [0, 1] S_
  h_S_ : 0 < S_.numel
  bcast_S_S30x30 : S_.BroadcastsInDim S30x30 (![] : Fin 0 → Fin S30x30.rank)
  reducesTo_S30x30_S_d0_1 : S30x30.ReducesTo [0, 1] S_
  bcast_S_S5000x30 : S_.BroadcastsInDim S5000x30 (![] : Fin 0 → Fin S5000x30.rank)
  reducesTo_S5000x30_S_d0_1 : S5000x30.ReducesTo [0, 1] S_
  bcast_S_S1800x1024 : S_.BroadcastsInDim S1800x1024 (![] : Fin 0 → Fin S1800x1024.rank)
  reducesTo_S1800x1024_S_d0_1 : S1800x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1800 : S_.BroadcastsInDim S1024x1800 (![] : Fin 0 → Fin S1024x1800.rank)
  reducesTo_S1024x1800_S_d0_1 : S1024x1800.ReducesTo [0, 1] S_
  bcast_S_S1800 : S_.BroadcastsInDim S1800 (![] : Fin 0 → Fin S1800.rank)
  reducesTo_S1800_S_d0 : S1800.ReducesTo [0] S_
  bcast_S_S2x64x128 : S_.BroadcastsInDim S2x64x128 (![] : Fin 0 → Fin S2x64x128.rank)
  reducesTo_S2x64x128_S_d0_1_2 : S2x64x128.ReducesTo [0, 1, 2] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024x1800 .f32) (main_arg12 : FVec F S1800 .f32) (main_arg13 : FVec F S2x64x128 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1800 .f32 := Host.absf main_arg11
  let main_cst_20 : FVec F S_ .f32 := constant S_ .f32 0x7F800000#32
  let main_v55 : FVec F S1024x1800 .f32 := broadcastInDim S1024x1800 ![] bcast_S_S1024x1800 main_cst_20
  let main_v56 : IVec S1024x1800 1 := cmpf .olt main_v54 main_v55
  let main_c_21 : IVec S_ 1 := constantI S_ 1 1#1
  let main_v57 : IVec S_ 1 := (fun x v => Host.reduce IntOp.andi x v reducesTo_S1024x1800_S_d0_1 h_S_) main_v56 main_c_21
  let main_v58 : IVec S_ 1 := andi main_v53 main_v57
  let main_v59 : FVec F S1800 .f32 := Host.absf main_arg12
  let main_cst_22 : FVec F S_ .f32 := constant S_ .f32 0x7F800000#32
  let main_v60 : FVec F S1800 .f32 := broadcastInDim S1800 ![] bcast_S_S1800 main_cst_22
  let main_v61 : IVec S1800 1 := cmpf .olt main_v59 main_v60
  let main_c_23 : IVec S_ 1 := constantI S_ 1 1#1
  let main_v62 : IVec S_ 1 := (fun x v => Host.reduce IntOp.andi x v reducesTo_S1800_S_d0 h_S_) main_v61 main_c_23
  let main_v63 : IVec S_ 1 := andi main_v58 main_v62
  let main_v64 : FVec F S2x64x128 .f32 := Host.absf main_arg13
  let main_cst_24 : FVec F S_ .f32 := constant S_ .f32 0x7F800000#32
  let main_v65 : FVec F S2x64x128 .f32 := broadcastInDim S2x64x128 ![] bcast_S_S2x64x128 main_cst_24
  let main_v66 : IVec S2x64x128 1 := cmpf .olt main_v64 main_v65
  let main_c_25 : IVec S_ 1 := constantI S_ 1 1#1
  let main_v67 : IVec S_ 1 := (fun x v => Host.reduce IntOp.andi x v reducesTo_S2x64x128_S_d0_1_2 h_S_) main_v66 main_c_25
  fn_part4 (F := F) main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1800 .f32) (main_arg12 : FVec F S1800 .f32) (main_arg13 : FVec F S2x64x128 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_v48 main_v49 main_v50

def fn_part1 {F : FTy → Type} [FloatOps F] (main_arg4 : FVec F S5000x30 .f32) (main_arg5 : FVec F S1800x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1800 .f32) (main_arg12 : FVec F S1800 .f32) (main_arg13 : FVec F S2x64x128 .f32) (main_v13 : IVec S_ 1) (main_v16 : IVec S5000x30 1) : IVec S_ 1 :=
  let main_c_5 : IVec S_ 1 := constantI S_ 1 1#1
  let main_v17 : IVec S_ 1 := (fun x v => Host.reduce IntOp.andi x v reducesTo_S5000x30_S_d0_1 h_S_) main_v16 main_c_5
  let main_v18 : IVec S_ 1 := andi main_v13 main_v17
  let main_v19 : FVec F S5000x30 .f32 := Host.absf main_arg4
  let main_cst_6 : FVec F S_ .f32 := constant S_ .f32 0x7F800000#32
  let main_v20 : FVec F S5000x30 .f32 := broadcastInDim S5000x30 ![] bcast_S_S5000x30 main_cst_6
  let main_v21 : IVec S5000x30 1 := cmpf .olt main_v19 main_v20
  let main_c_7 : IVec S_ 1 := constantI S_ 1 1#1
  let main_v22 : IVec S_ 1 := (fun x v => Host.reduce IntOp.andi x v reducesTo_S5000x30_S_d0_1 h_S_) main_v21 main_c_7
  let main_v23 : IVec S_ 1 := andi main_v18 main_v22
  let main_v24 : FVec F S1800x1024 .f32 := Host.absf main_arg5
  let main_cst_8 : FVec F S_ .f32 := constant S_ .f32 0x7F800000#32
  let main_v25 : FVec F S1800x1024 .f32 := broadcastInDim S1800x1024 ![] bcast_S_S1800x1024 main_cst_8
  let main_v26 : IVec S1800x1024 1 := cmpf .olt main_v24 main_v25
  let main_c_9 : IVec S_ 1 := constantI S_ 1 1#1
  let main_v27 : IVec S_ 1 := (fun x v => Host.reduce IntOp.andi x v reducesTo_S1800x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S5000x64 .f32) (main_arg1 : FVec F S5000x64 .f32) (main_arg2 : FVec F S30x30 .f32) (main_arg3 : FVec F S5000x30 .f32) (main_arg4 : FVec F S5000x30 .f32) (main_arg5 : FVec F S1800x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1800 .f32) (main_arg12 : FVec F S1800 .f32) (main_arg13 : FVec F S2x64x128 .f32) (main_arg14 : FVec F S1x128 .f32) : IVec S_ 1 :=
  let main_v0 : FVec F S5000x64 .f32 := Host.absf main_arg0
  let main_cst : FVec F S_ .f32 := constant S_ .f32 0x7F800000#32
  let main_v1 : FVec F S5000x64 .f32 := broadcastInDim S5000x64 ![] bcast_S_S5000x64 main_cst
  let main_v2 : IVec S5000x64 1 := cmpf .olt main_v0 main_v1
  let main_c : IVec S_ 1 := constantI S_ 1 1#1
  let main_v3 : IVec S_ 1 := (fun x v => Host.reduce IntOp.andi x v reducesTo_S5000x64_S_d0_1 h_S_) main_v2 main_c
  let main_v4 : FVec F S5000x64 .f32 := Host.absf main_arg1
  let main_cst_0 : FVec F S_ .f32 := constant S_ .f32 0x7F800000#32
  let main_v5 : FVec F S5000x64 .f32 := broadcastInDim S5000x64 ![] bcast_S_S5000x64 main_cst_0
  let main_v6 : IVec S5000x64 1 := cmpf .olt main_v4 main_v5
  let main_c_1 : IVec S_ 1 := constantI S_ 1 1#1
  let main_v7 : IVec S_ 1 := (fun x v => Host.reduce IntOp.andi x v reducesTo_S5000x64_S_d0_1 h_S_) main_v6 main_c_1
  let main_v8 : IVec S_ 1 := andi main_v3 main_v7
  let main_v9 : FVec F S30x30 .f32 := Host.absf main_arg2
  let main_cst_2 : FVec F S_ .f32 := constant S_ .f32 0x7F800000#32
  let main_v10 : FVec F S30x30 .f32 := broadcastInDim S30x30 ![] bcast_S_S30x30 main_cst_2
  let main_v11 : IVec S30x30 1 := cmpf .olt main_v9 main_v10
  let main_c_3 : IVec S_ 1 := constantI S_ 1 1#1
  let main_v12 : IVec S_ 1 := (fun x v => Host.reduce IntOp.andi x v reducesTo_S30x30_S_d0_1 h_S_) main_v11 main_c_3
  let main_v13 : IVec S_ 1 := andi main_v8 main_v12
  let main_v14 : FVec F S5000x30 .f32 := Host.absf main_arg3
  let main_cst_4 : FVec F S_ .f32 := constant S_ .f32 0x7F800000#32
  let main_v15 : FVec F S5000x30 .f32 := broadcastInDim S5000x30 ![] bcast_S_S5000x30 main_cst_4
  let main_v16 : IVec S5000x30 1 := cmpf .olt main_v14 main_v15
  fn_part1 (F := F) main_arg4 main_arg5 main_arg6 main_arg7 main_arg8 main_arg9 main_arg10 main_arg11 main_arg12 main_arg13 main_v13 main_v16
-- ==== Kernel.lean ====
abbrev S5000x64 : Shape := ⟨2, ![5000, 64]⟩
abbrev S30x30 : Shape := ⟨2, ![30, 30]⟩
abbrev S5000x30 : Shape := ⟨2, ![5000, 30]⟩
abbrev S1800x1024 : Shape := ⟨2, ![1800, 1024]⟩
abbrev S1024 : Shape := ⟨1, ![1024]⟩
abbrev S1024x1024 : Shape := ⟨2, ![1024, 1024]⟩
abbrev S1024x1800 : Shape := ⟨2, ![1024, 1800]⟩
abbrev S1800 : Shape := ⟨1, ![1800]⟩
abbrev S2x64x128 : Shape := ⟨3, ![2, 64, 128]⟩
abbrev S1x128 : Shape := ⟨2, ![1, 128]⟩
abbrev S1x1024 : Shape := ⟨2, ![1, 1024]⟩
abbrev S1x1800 : Shape := ⟨2, ![1, 1800]⟩
abbrev S5000x128 : Shape := ⟨2, ![5000, 128]⟩
abbrev S_ : Shape := ⟨0, ![]⟩
abbrev S360x1024 : Shape := ⟨2, ![360, 1024]⟩
abbrev S256x1024 : Shape := ⟨2, ![256, 1024]⟩
abbrev S30x60 : Shape := ⟨2, ![30, 60]⟩
abbrev S1x60 : Shape := ⟨2, ![1, 60]⟩
abbrev S256x1800 : Shape := ⟨2, ![256, 1800]⟩
abbrev S30x64 : Shape := ⟨2, ![30, 64]⟩
abbrev S1x64x128 : Shape := ⟨3, ![1, 64, 128]⟩
abbrev S64x128 : Shape := ⟨2, ![64, 128]⟩
abbrev S30x128 : Shape := ⟨2, ![30, 128]⟩
abbrev S60x30 : Shape := ⟨2, ![60, 30]⟩
abbrev S1000x30 : Shape := ⟨2, ![1000, 30]⟩
abbrev S1000x128 : Shape := ⟨2, ![1000, 128]⟩

abbrev nBuf : Space → Nat
  | .hbm => 21
  | .vmem => 17
  | .smem => 0
  | _ => 0

abbrev bufTy : (tb : Table) → Fin (tcTables nBuf tb) → BufTy
  | .hbm, ⟨0, _⟩ => ⟨S5000x64, .f32⟩
  | .hbm, ⟨1, _⟩ => ⟨S5000x64, .f32⟩
  | .hbm, ⟨2, _⟩ => ⟨S30x30, .f32⟩
  | .hbm, ⟨3, _⟩ => ⟨S5000x30, .f32⟩
  | .hbm, ⟨4, _⟩ => ⟨S5000x30, .f32⟩
  | .hbm, ⟨5, _⟩ => ⟨S1800x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1800, .f32⟩
  | .hbm, ⟨12, _⟩ => ⟨S1800, .f32⟩
  | .hbm, ⟨13, _⟩ => ⟨S2x64x128, .f32⟩
  | .hbm, ⟨14, _⟩ => ⟨S1x128, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1800, .f32⟩
  | .hbm, ⟨19, _⟩ => ⟨S5000x128, .f32⟩
  | .hbm, ⟨20, _⟩ => ⟨S5000x128, .f32⟩
  | .local _ .vmem, ⟨0, _⟩ => ⟨S30x30, .f32⟩
  | .local _ .vmem, ⟨1, _⟩ => ⟨S5000x30, .f32⟩
  | .local _ .vmem, ⟨2, _⟩ => ⟨S5000x30, .f32⟩
  | .local _ .vmem, ⟨3, _⟩ => ⟨S5000x64, .f32⟩
  | .local _ .vmem, ⟨4, _⟩ => ⟨S5000x64, .f32⟩
  | .local _ .vmem, ⟨5, _⟩ => ⟨S1800x1024, .f32⟩
  | .local _ .vmem, ⟨6, _⟩ => ⟨S1x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1x1024, .f32⟩
  | .local _ .vmem, ⟨11, _⟩ => ⟨S1024x1800, .f32⟩
  | .local _ .vmem, ⟨12, _⟩ => ⟨S1x1800, .f32⟩
  | .local _ .vmem, ⟨13, _⟩ => ⟨S2x64x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S5000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v0_0 : Ref sig .tc := ⟨.hbm, 19, rfl⟩
abbrev main_v0_1 : Ref sig .tc := ⟨.hbm, 20, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩

abbrev nD : Nat := 1
abbrev τ : Topo := Topo.v7x

variable {F : FTy → Type} [FloatOps F]

abbrev grid0 : Pipeline.Grid := .none
-- ==== ReferenceIdeal.lean ====
abbrev S5000x64 : Shape := ⟨2, ![5000, 64]⟩
abbrev S30x30 : Shape := ⟨2, ![30, 30]⟩
abbrev S5000x30 : Shape := ⟨2, ![5000, 30]⟩
abbrev S1800x1024 : Shape := ⟨2, ![1800, 1024]⟩
abbrev S1024 : Shape := ⟨1, ![1024]⟩
abbrev S1024x1024 : Shape := ⟨2, ![1024, 1024]⟩
abbrev S1024x1800 : Shape := ⟨2, ![1024, 1800]⟩
abbrev S1800 : Shape := ⟨1, ![1800]⟩
abbrev S2x64x128 : Shape := ⟨3, ![2, 64, 128]⟩
abbrev S1x128 : Shape := ⟨2, ![1, 128]⟩
abbrev S30x60 : Shape := ⟨2, ![30, 60]⟩
abbrev S_ : Shape := ⟨0, ![]⟩
abbrev S30x30x2 : Shape := ⟨3, ![30, 30, 2]⟩
abbrev S5000x128 : Shape := ⟨2, ![5000, 128]⟩
abbrev S30x30x1 : Shape := ⟨3, ![30, 30, 1]⟩
abbrev S30x5000 : Shape := ⟨2, ![30, 5000]⟩
abbrev S5000x5000 : Shape := ⟨2, ![5000, 5000]⟩
abbrev S1x64x128 : Shape := ⟨3, ![1, 64, 128]⟩
abbrev S64x128 : Shape := ⟨2, ![64, 128]⟩

abbrev nBuf : Space → Nat
  | .hbm => 109
  | .vmem => 0
  | .smem => 0
  | _ => 0

abbrev bufTy : (tb : Table) → Fin (tcTables nBuf tb) → BufTy
  | .hbm, ⟨0, _⟩ => ⟨S5000x64, .f32⟩
  | .hbm, ⟨1, _⟩ => ⟨S5000x64, .f32⟩
  | .hbm, ⟨2, _⟩ => ⟨S30x30, .f32⟩
  | .hbm, ⟨3, _⟩ => ⟨S5000x30, .f32⟩
  | .hbm, ⟨4, _⟩ => ⟨S5000x30, .f32⟩
  | .hbm, ⟨5, _⟩ => ⟨S1800x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1800, .f32⟩
  | .hbm, ⟨12, _⟩ => ⟨S1800, .f32⟩
  | .hbm, ⟨13, _⟩ => ⟨S2x64x128, .f32⟩
  | .hbm, ⟨14, _⟩ => ⟨S1x128, .f32⟩
  | .hbm, ⟨15, _⟩ => ⟨S30x30, .f32⟩
  | .hbm, ⟨16, _⟩ => ⟨S30x60, .f32⟩
  | .hbm, ⟨17, _⟩ => ⟨S1800, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1800, .f32⟩
  | .hbm, ⟨34, _⟩ => ⟨S1800, .f32⟩
  | .hbm, ⟨35, _⟩ => ⟨S30x30x2, .f32⟩
  | .hbm, ⟨36, _⟩ => ⟨S30x30x2, .f32⟩
  | .hbm, ⟨37, _⟩ => ⟨S30x30x2, .f32⟩
  | .hbm, ⟨38, _⟩ => ⟨S_, .f32⟩
  | .hbm, ⟨39, _⟩ => ⟨S30x30x2, .f32⟩
  | .hbm, ⟨40, _⟩ => ⟨S30x30x2, .f32⟩
  | .hbm, ⟨41, _⟩ => ⟨S_, .f32⟩
  | .hbm, ⟨42, _⟩ => ⟨S5000x128, .f32⟩
  | .hbm, ⟨43, _⟩ => ⟨S_, .f32⟩
  | .hbm, ⟨44, _⟩ => ⟨S5000x128, .f32⟩
  | .hbm, ⟨45, _⟩ => ⟨S30x30x1, .f32⟩
  | .hbm, ⟨46, _⟩ => ⟨S30x30, .f32⟩
  | .hbm, ⟨47, _⟩ => ⟨S5000x30, .f32⟩
  | .hbm, ⟨48, _⟩ => ⟨S30x5000, .f32⟩
  | .hbm, ⟨49, _⟩ => ⟨S5000x5000, .f32⟩
  | .hbm, ⟨50, _⟩ => ⟨S5000x30, .f32⟩
  | .hbm, ⟨51, _⟩ => ⟨S30x5000, .f32⟩
  | .hbm, ⟨52, _⟩ => ⟨S5000x5000, .f32⟩
  | .hbm, ⟨53, _⟩ => ⟨S5000x5000, .f32⟩
  | .hbm, ⟨54, _⟩ => ⟨S5000x30, .f32⟩
  | .hbm, ⟨55, _⟩ => ⟨S30x5000, .f32⟩
  | .hbm, ⟨56, _⟩ => ⟨S5000x5000, .f32⟩
  | .hbm, ⟨57, _⟩ => ⟨S5000x30, .f32⟩
  | .hbm, ⟨58, _⟩ => ⟨S30x5000, .f32⟩
  | .hbm, ⟨59, _⟩ => ⟨S5000x5000, .f32⟩
  | .hbm, ⟨60, _⟩ => ⟨S5000x5000, .f32⟩
  | .hbm, ⟨61, _⟩ => ⟨S1x64x128, .f32⟩
  | .hbm, ⟨62, _⟩ => ⟨S64x128, .f32⟩
  | .hbm, ⟨63, _⟩ => ⟨S5000x64, .f32⟩
  | .hbm, ⟨64, _⟩ => ⟨S5000x128, .f32⟩
  | .hbm, ⟨65, _⟩ => ⟨S5000x64, .f32⟩
  | .hbm, ⟨66, _⟩ => ⟨S5000x128, .f32⟩
  | .hbm, ⟨67, _⟩ => ⟨S5000x128, .f32⟩
  | .hbm, ⟨68, _⟩ => ⟨S5000x64, .f32⟩
  | .hbm, ⟨69, _⟩ => ⟨S5000x128, .f32⟩
  | .hbm, ⟨70, _⟩ => ⟨S5000x64, .f32⟩
  | .hbm, ⟨71, _⟩ => ⟨S5000x128, .f32⟩
  | .hbm, ⟨72, _⟩ => ⟨S5000x128, .f32⟩
  | .hbm, ⟨73, _⟩ => ⟨S5000x128, .f32⟩
  | .hbm, ⟨74, _⟩ => ⟨S5000x128, .f32⟩
  | .hbm, ⟨75, _⟩ => ⟨S30x30x1, .f32⟩
  | .hbm, ⟨76, _⟩ => ⟨S30x30, .f32⟩
  | .hbm, ⟨77, _⟩ => ⟨S5000x30, .f32⟩
  | .hbm, ⟨78, _⟩ => ⟨S30x5000, .f32⟩
  | .hbm, ⟨79, _⟩ => ⟨S5000x5000, .f32⟩
  | .hbm, ⟨80, _⟩ => ⟨S5000x30, .f32⟩
  | .hbm, ⟨81, _⟩ => ⟨S30x5000, .f32⟩
  | .hbm, ⟨82, _⟩ => ⟨S5000x5000, .f32⟩
  | .hbm, ⟨83, _⟩ => ⟨S5000x5000, .f32⟩
  | .hbm, ⟨84, _⟩ => ⟨S5000x30, .f32⟩
  | .hbm, ⟨85, _⟩ => ⟨S30x5000, .f32⟩
  | .hbm, ⟨86, _⟩ => ⟨S5000x5000, .f32⟩
  | .hbm, ⟨87, _⟩ => ⟨S5000x30, .f32⟩
  | .hbm, ⟨88, _⟩ => ⟨S30x5000, .f32⟩
  | .hbm, ⟨89, _⟩ => ⟨S5000x5000, .f32⟩
  | .hbm, ⟨90, _⟩ => ⟨S5000x5000, .f32⟩
  | .hbm, ⟨91, _⟩ => ⟨S1x64x128, .f32⟩
  | .hbm, ⟨92, _⟩ => ⟨S64x128, .f32⟩
  | .hbm, ⟨93, _⟩ => ⟨S5000x64, .f32⟩
  | .hbm, ⟨94, _⟩ => ⟨S5000x128, .f32⟩
  | .hbm, ⟨95, _⟩ => ⟨S5000x64, .f32⟩
  | .hbm, ⟨96, _⟩ => ⟨S5000x128, .f32⟩
  | .hbm, ⟨97, _⟩ => ⟨S5000x128, .f32⟩
  | .hbm, ⟨98, _⟩ => ⟨S5000x64, .f32⟩
  | .hbm, ⟨99, _⟩ => ⟨S5000x128, .f32⟩
  | .hbm, ⟨100, _⟩ => ⟨S5000x64, .f32⟩
  | .hbm, ⟨101, _⟩ => ⟨S5000x128, .f32⟩
  | .hbm, ⟨102, _⟩ => ⟨S5000x128, .f32⟩
  | .hbm, ⟨103, _⟩ => ⟨S5000x128, .f32⟩
  | .hbm, ⟨104, _⟩ => ⟨S5000x128, .f32⟩
  | .hbm, ⟨105, _⟩ => ⟨S5000x128, .f32⟩
  | .hbm, ⟨106, _⟩ => ⟨S5000x128, .f32⟩
  | .hbm, ⟨107, _⟩ => ⟨S5000x128, .f32⟩
  | .hbm, ⟨108, _⟩ => ⟨S5000x128, .f32⟩
  | _, _ => ⟨S5000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_cst : Ref sig .tc := ⟨.hbm, 25, rfl⟩
abbrev main_call1_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call2_cst : Ref sig .tc := ⟨.hbm, 30, rfl⟩
abbrev main_call2_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_cst_0 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]
-- ==== Proof.KernelFrame.lean ====
/-
  The kernel's frame. The body stages no window: it copies its operands from HBM into scratch buffers on its own DMA
  semaphores, computes, and copies the result out by rows. `bodyRun` runs it once: several copies of one size share a
  semaphore (the row blocks of a weight, the two halves of `Q`, of `x`, and the ten copies out), and each such group is planned as one
  batch; the five small operands share one at different sizes, and their batch is stated with its amounts and deliveries. The launch theorem for a kernel with its own copies then gives the run of the whole program.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Batch
public import Idealize.ShloMosaic.Lib.MixedBatch
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's algebra beside the transfers' counters. -/
local notation "𝕄" => MT nD τ sig Unit (Elt F) ℕ (Pipeline.UD sig nD τ) ℕ

/-! ## The body's operands -/

abbrev sc0 : Memref sig .tc .vmem S30x30 .f32 := Memref.whole cc0_scratch0
abbrev sc1 : Memref sig .tc .vmem S5000x30 .f32 := Memref.whole cc0_scratch1
abbrev sc2 : Memref sig .tc .vmem S5000x30 .f32 := Memref.whole cc0_scratch2
abbrev sc3 : Memref sig .tc .vmem S5000x64 .f32 := Memref.whole cc0_scratch3
abbrev sc4 : Memref sig .tc .vmem S5000x64 .f32 := Memref.whole cc0_scratch4
abbrev sc5 : Memref sig .tc .vmem S1800x1024 .f32 := Memref.whole cc0_scratch5
abbrev sc6 : Memref sig .tc .vmem S1x1024 .f32 := Memref.whole cc0_scratch6
abbrev sc7 : Memref sig .tc .vmem S1024x1024 .f32 := Memref.whole cc0_scratch7
abbrev sc8 : Memref sig .tc .vmem S1x1024 .f32 := Memref.whole cc0_scratch8
abbrev sc9 : Memref sig .tc .vmem S1024x1024 .f32 := Memref.whole cc0_scratch9
abbrev sc10 : Memref sig .tc .vmem S1x1024 .f32 := Memref.whole cc0_scratch10
abbrev sc11 : Memref sig .tc .vmem S1024x1800 .f32 := Memref.whole cc0_scratch11
abbrev sc12 : Memref sig .tc .vmem S1x1800 .f32 := Memref.whole cc0_scratch12
abbrev sc13 : Memref sig .tc .vmem S2x64x128 .f32 := Memref.whole cc0_scratch13
abbrev sc14 : Memref sig .tc .vmem S1x128 .f32 := Memref.whole cc0_scratch14
abbrev sc15 : Memref sig .tc .vmem S5000x128 .f32 := Memref.whole cc0_scratch15
abbrev sc16 : Memref sig .tc .vmem S5000x128 .f32 := Memref.whole cc0_scratch16
abbrev hb0 : Memref sig .tc .hbm S30x30 .f32 := Memref.whole main_arg2
abbrev hb1 : Memref sig .tc .hbm S5000x30 .f32 := Memref.whole main_arg3
abbrev hb2 : Memref sig .tc .hbm S5000x30 .f32 := Memref.whole main_arg4
abbrev hb3 : Memref sig .tc .hbm S5000x64 .f32 := Memref.whole main_arg0
abbrev hb4 : Memref sig .tc .hbm S5000x64 .f32 := Memref.whole main_arg1
abbrev hb5 : Memref sig .tc .hbm S1800x1024 .f32 := Memref.whole main_arg5
abbrev hb6 : Memref sig .tc .hbm S1x1024 .f32 := Memref.whole main_call0_v0
abbrev hb7 : Memref sig .tc .hbm S1024x1024 .f32 := Memref.whole main_arg7
abbrev hb8 : Memref sig .tc .hbm S1x1024 .f32 := Memref.whole main_call0_v1
abbrev hb9 : Memref sig .tc .hbm S1024x1024 .f32 := Memref.whole main_arg9
abbrev hb10 : Memref sig .tc .hbm S1x1024 .f32 := Memref.whole main_call0_v2
abbrev hb11 : Memref sig .tc .hbm S1024x1800 .f32 := Memref.whole main_arg11
abbrev hb12 : Memref sig .tc .hbm S1x1800 .f32 := Memref.whole main_call0_v3
abbrev hb13 : Memref sig .tc .hbm S2x64x128 .f32 := Memref.whole main_arg13
abbrev hb14 : Memref sig .tc .hbm S1x128 .f32 := Memref.whole main_arg14
abbrev ou0 : Memref sig .tc .hbm S5000x128 .f32 := Memref.whole main_v0_0
abbrev ou1 : Memref sig .tc .hbm S5000x128 .f32 := Memref.whole main_v0_1

/-- The contents of the buffer a whole memref names, on core `c`. -/
abbrev Bf (c : Dev nD) {sp : Space} {S : Shape} {e : EltTy} (M : Memref sig .tc sp S e) : Type := Buf (Elt F) (M.view.loc (c : Thread nD τ))
/-- The buffer a whole memref names, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The elements of an operand a copy of the whole of it borrows. -/
abbrev lent (c : Dev nD) {S : Shape} {e : EltTy} (M : Memref sig .tc .hbm S e) (f : Bf (F := F) c M) : sProp 𝕄 :=
  M.view.loc (c : Thread nD τ) ↦[M.view.set]{fullShare} f
/-- A landed copy of a whole array: the source's contents written over the destination's. -/
abbrev landed (c : Dev nD) {S : Shape} {e : EltTy} (src : Memref sig .tc .hbm S e) (dst : Memref sig .tc .vmem S e) (f : Bf (F := F) c src) (g : Bf (F := F) c dst) : Bf (F := F) c dst :=
  dst.view.write (Elt F) g (ReadAs.same.apply (src.view.read (Elt F) f)) Finset.univ
/-- What the five copies on the semaphore of the small operands deliver, in the order they start: the destination filled, the source back. -/
abbrev smallD (c : Dev nD) (h6 : Bf (F := F) c hb6) (h8 : Bf (F := F) c hb8) (h10 : Bf (F := F) c hb10) (h13 : Bf (F := F) c hb13) (h14 : Bf (F := F) c hb14)
    (s6 : Bf (F := F) c sc6) (s8 : Bf (F := F) c sc8) (s10 : Bf (F := F) c sc10) (s13 : Bf (F := F) c sc13) (s14 : Bf (F := F) c sc14) : Fin 5 → sProp 𝕄
  | 0 => iprop(pt c sc6 (landed c hb6 sc6 h6 s6) ∗ lent c hb6 h6)
  | 1 => iprop(pt c sc8 (landed c hb8 sc8 h8 s8) ∗ lent c hb8 h8)
  | 2 => iprop(pt c sc10 (landed c hb10 sc10 h10 s10) ∗ lent c hb10 h10)
  | 3 => iprop(pt c sc13 (landed c hb13 sc13 h13 s13) ∗ lent c hb13 h13)
  | 4 => iprop(pt c sc14 (landed c hb14 sc14 h14 s14) ∗ lent c hb14 h14)
/-- Their amounts. -/
abbrev smallA : Fin 5 → ℕ := ![128, 128, 128, 2048, 16]
instance smallD_storable (c : Dev nD) (h6 : Bf (F := F) c hb6) (h8 : Bf (F := F) c hb8) (h10 : Bf (F := F) c hb10) (h13 : Bf (F := F) c hb13) (h14 : Bf (F := F) c hb14)
    (s6 : Bf (F := F) c sc6) (s8 : Bf (F := F) c sc8) (s10 : Bf (F := F) c sc10) (s13 : Bf (F := F) c sc13) (s14 : Bf (F := F) c sc14) (t : Fin 5) :
    Storable (upEmb : UEmb _ 𝕄) (smallD c h6 h8 h10 h13 h14 s6 s8 s10 s13 s14 t) := by
  fin_cases t <;> (dsimp only [smallD]; infer_instance)

set_option maxHeartbeats 4000000 in
set_option sl_exec.dmaWindow true in
/-- The body's run: from the operands in HBM held whole, the scratch buffers and the two results at anything, and every DMA
    counter at zero, to the operands as they were, the counters back at zero and the two results at some contents. -/
theorem bodyRun (c : Dev nD) (h0 : Bf (F := F) c hb0) (h1 : Bf (F := F) c hb1) (h2 : Bf (F := F) c hb2) (h3 : Bf (F := F) c hb3) (h4 : Bf (F := F) c hb4) (h5 : Bf (F := F) c hb5) (h6 : Bf (F := F) c hb6) (h7 : Bf (F := F) c hb7) (h8 : Bf (F := F) c hb8) (h9 : Bf (F := F) c hb9) (h10 : Bf (F := F) c hb10) (h11 : Bf (F := F) c hb11) (h12 : Bf (F := F) c hb12) (h13 : Bf (F := F) c hb13) (h14 : Bf (F := F) c hb14) :
    ∀ (W : Waits sig Unit) (K : PUnit → sProp 𝕄),
        iprop((∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f) ∗ (∃ f, pt c sc10 f) ∗ (∃ f, pt c sc11 f) ∗ (∃ f, pt c sc12 f) ∗ (∃ f, pt c sc13 f) ∗ (∃ f, pt c sc14 f) ∗ (∃ f, pt c sc15 f) ∗ (∃ f, pt c sc16 f)
            ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
            ∗ pt c hb0 h0 ∗ pt c hb1 h1 ∗ pt c hb2 h2 ∗ pt c hb3 h3 ∗ pt c hb4 h4 ∗ pt c hb5 h5 ∗ pt c hb6 h6 ∗ pt c hb7 h7 ∗ pt c hb8 h8 ∗ pt c hb9 h9 ∗ pt c hb10 h10 ∗ pt c hb11 h11 ∗ pt c hb12 h12 ∗ pt c hb13 h13 ∗ pt c hb14 h14
            ∗ (∃ f, pt c ou0 f) ∗ (∃ f, pt c ou1 f)
            ∗ owes (c : Thread nD τ) 0 W
            ∗ (iprop((∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f) ∗ (∃ f, pt c sc10 f) ∗ (∃ f, pt c sc11 f) ∗ (∃ f, pt c sc12 f) ∗ (∃ f, pt c sc13 f) ∗ (∃ f, pt c sc14 f) ∗ (∃ f, pt c sc15 f) ∗ (∃ f, pt c sc16 f)
                ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
                ∗ pt c hb0 h0 ∗ pt c hb1 h1 ∗ pt c hb2 h2 ∗ pt c hb3 h3 ∗ pt c hb4 h4 ∗ pt c hb5 h5 ∗ pt c hb6 h6 ∗ pt c hb7 h7 ∗ pt c hb8 h8 ∗ pt c hb9 h9 ∗ pt c hb10 h10 ∗ pt c hb11 h11 ∗ pt c hb12 h12 ∗ pt c hb13 h13 ∗ pt c hb14 h14
                ∗ (∃ g, pt c ou0 g) ∗ (∃ g, pt c ou1 g)
                ∗ (∃ W', owes (c : Thread nD τ) 0 W')) -∗ K ⟨⟩))
          ⊢ wp frame (wpE (defs₀ (F := F)) Variants.none c none) Set.univ
              (cc0__body hb0 (Memref.isWhole_whole _) hb1 (Memref.isWhole_whole _) hb2 (Memref.isWhole_whole _) hb3 (Memref.isWhole_whole _) hb4 (Memref.isWhole_whole _) hb5 (Memref.isWhole_whole _) hb6 (Memref.isWhole_whole _) hb7 (Memref.isWhole_whole _) hb8 (Memref.isWhole_whole _) hb9 (Memref.isWhole_whole _) hb10 (Memref.isWhole_whole _) hb11 (Memref.isWhole_whole _) hb12 (Memref.isWhole_whole _) hb13 (Memref.isWhole_whole _) hb14 (Memref.isWhole_whole _) ou0 (Memref.isWhole_whole _) ou1 (Memref.isWhole_whole _) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) sc16 (Memref.isWhole_whole _) cc0_scratch17 cc0_scratch18 cc0_scratch19 cc0_scratch20 cc0_scratch21 cc0_scratch22 cc0_scratch23 cc0_scratch24 cc0_scratch25 cc0_scratch26) K := by
  intro W K
  ·
    simp only [cc0__body_eq_skeleton]; unfold cc0__body_skel
    have _p1 : Transfers.BatchOf (c : Thread nD τ) (SemLoc.dma (sig := sig) 1) 2 (windows := true) := trivial
    have _p2 : Transfers.BatchOf (c : Thread nD τ) (SemLoc.dma (sig := sig) 2) 5 (windows := true) := trivial
    have _p3 : Transfers.BatchOf (c : Thread nD τ) (SemLoc.dma (sig := sig) 3) 4 (windows := true) := trivial
    have _p4 : Transfers.BatchOf (c : Thread nD τ) (SemLoc.dma (sig := sig) 4) 4 (windows := true) := trivial
    have _p5 : Transfers.BatchOf (c : Thread nD τ) (SemLoc.dma (sig := sig) 5) 4 (windows := true) := trivial
    have _p7 : Transfers.BatchOf (c : Thread nD τ) (SemLoc.dma (sig := sig) 7) 10 (windows := true) := trivial
    have _p8 : Transfers.BatchOf (c : Thread nD τ) (SemLoc.dma (sig := sig) 8) 2 (windows := true) := trivial
    iintro ⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩, ⟨%s13, HS13⟩, ⟨%s14, HS14⟩, ⟨%s15, HS15⟩, ⟨%s16, HS16⟩, Hq0, Hq1, Hq2, Hq3, Hq4, Hq5, Hq6, Hq7, Hq8, Hq9, Hh0, Hh1, Hh2, Hh3, Hh4, Hh5, Hh6, Hh7, Hh8, Hh9, Hh10, Hh11, Hh12, Hh13, Hh14, ⟨%o0, HO0⟩, ⟨%o1, HO1⟩, HW, Hk⟩
    imod (Transfers.mixedBatch_alloc' (Lvl := ℕ) (countersEmb (U := Pipeline.UD sig nD τ)) (c : Thread nD τ) () smallA (smallD c h6 h8 h10 h13 h14 s6 s8 s10 s13 s14) (sm := .dma 6) (E := Set.univ)) $$ Hq6 with HB
    sl_exec_parts
    sl_step
    iapply Hk
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HB_dst0]; · iexists _; iexact HB_dst0
    isplitl [HS7]; · iexists _; iexact HS7
    isplitl [HB_dst1]; · iexists _; iexact HB_dst1
    isplitl [HS9]; · iexists _; iexact HS9
    isplitl [HB_dst2]; · iexists _; iexact HB_dst2
    isplitl [HS11]; · iexists _; iexact HS11
    isplitl [HS12]; · iexists _; iexact HS12
    isplitl [HB_dst3]; · iexists _; iexact HB_dst3
    isplitl [HB_dst4]; · iexists _; iexact HB_dst4
    isplitl [HS15]; · iexists _; iexact HS15
    isplitl [HS16]; · iexists _; iexact HS16
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [HB]; · iexact HB
    isplitl [Hq7]; · iexact Hq7
    isplitl [Hq8]; · iexact Hq8
    isplitl [Hq9]; · iexact Hq9
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [HO0]; · iexists _; iexact HO0
    isplitl [HO1]; · iexists _; iexact HO1
    iexists _; iexact HW

variable (m : (ℓ : Loc nD τ sig) → Buf (Elt F) ℓ) (ρ : Dev nD → PrngReg)

/-! ## The launch's set-up -/

/-- The two results, which the body writes by its own copies. -/
def R0 : Finset (Ref sig .tc) := {main_v0_0, main_v0_1}
/-- The arrays in HBM the body's copies read. -/
def H0 : Finset (Ref sig .tc) := {main_arg2, main_arg3, main_arg4, main_arg0, main_arg1, main_arg5, main_call0_v0, main_arg7, main_call0_v1, main_arg9, main_call0_v2, main_arg11, main_call0_v3, main_arg13, main_arg14}
theorem H0_sub : H0 ⊆ Pipeline.restRefs sig (cfg0.spec) := by decide
theorem R0_sub : R0 ⊆ Pipeline.restRefs sig (cfg0.spec) \ H0 := by decide

/-- The body's ten DMA semaphores. -/
abbrev osem0 : Fin 10 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9] : Fin 10 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3, 4, 5, 6, 7, 8, 9] (by decide) (by decide)]; rfl

set_option maxHeartbeats 800000 in
/-- The host operations before the region, then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem hbmPts0_eq (c : Dev nD) :
    (bigSep H0 (fun b => ((c : Thread nD τ).loc b) ↦{fullShare} V m c b) : sProp 𝕄)
      = iprop(pt c hb0 (V m c main_arg2) ∗ pt c hb1 (V m c main_arg3) ∗ pt c hb2 (V m c main_arg4) ∗ pt c hb3 (V m c main_arg0) ∗ pt c hb4 (V m c main_arg1) ∗ pt c hb5 (V m c main_arg5) ∗ pt c hb6 (V m c main_call0_v0) ∗ pt c hb7 (V m c main_arg7) ∗ pt c hb8 (V m c main_call0_v1) ∗ pt c hb9 (V m c main_arg9) ∗ pt c hb10 (V m c main_call0_v2) ∗ pt c hb11 (V m c main_arg11) ∗ pt c hb12 (V m c main_call0_v3) ∗ pt c hb13 (V m c main_arg13) ∗ pt c hb14 (V m c main_arg14)) := by
  rw [BI.bigSep_eq_bigSepL_of_eq [main_arg2, main_arg3, main_arg4, main_arg0, main_arg1, main_arg5, main_call0_v0, main_arg7, main_call0_v1, main_arg9, main_call0_v2, main_arg11, main_call0_v3, main_arg13, main_arg14] (by decide) (by decide)]; rfl

theorem ownedPts0_eq (c : Dev nD) : (Pipeline.owned R0 c : sProp 𝕄) = iprop((∃ f, pt c ou0 f) ∗ (∃ f, pt c ou1 f)) := by
  unfold Pipeline.owned; rw [BI.bigSep_eq_bigSepL_of_eq [main_v0_0, main_v0_1] (by decide) (by decide)]; rfl

theorem PhiDR0_eq (c : Dev nD) :
    (Pipeline.ΦDR osem0 (cfg0.spec) H0 R0 (V m) c : sProp 𝕄)
      = iprop(iprop((∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f) ∗ (∃ f, pt c sc10 f) ∗ (∃ f, pt c sc11 f) ∗ (∃ f, pt c sc12 f) ∗ (∃ f, pt c sc13 f) ∗ (∃ f, pt c sc14 f) ∗ (∃ f, pt c sc15 f) ∗ (∃ f, pt c sc16 f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
          ∗ iprop(pt c hb0 (V m c main_arg2) ∗ pt c hb1 (V m c main_arg3) ∗ pt c hb2 (V m c main_arg4) ∗ pt c hb3 (V m c main_arg0) ∗ pt c hb4 (V m c main_arg1) ∗ pt c hb5 (V m c main_arg5) ∗ pt c hb6 (V m c main_call0_v0) ∗ pt c hb7 (V m c main_arg7) ∗ pt c hb8 (V m c main_call0_v1) ∗ pt c hb9 (V m c main_arg9) ∗ pt c hb10 (V m c main_call0_v2) ∗ pt c hb11 (V m c main_arg11) ∗ pt c hb12 (V m c main_call0_v3) ∗ pt c hb13 (V m c main_arg13) ∗ pt c hb14 (V m c main_arg14))
          ∗ iprop((∃ f, pt c ou0 f) ∗ (∃ f, pt c ou1 f))) := by
  rw [Pipeline.ΦDR_eq, scopedRest0_eq, ownSems00_eq, hbmPts0_eq, ownedPts0_eq]; try rfl

/-- The proof data of the one pipeline, which stages no window: the invariant before and after its one point. -/
def dats (_ : Fin 1) (c : Dev nD) : Dat τ (Elt F) Unit ℕ (Pipeline.UD sig nD τ) ℕ cfg0 c where
  A w := w.elim0
  after w t := w.elim0
  Φ _ := Pipeline.ΦDR osem0 (cfg0.spec) H0 R0 (V m) c
  q _ := fullShare
  owed _ := 0

theorem A_eq (c : Dev nD) (w : Fin cfg0.W) : (dats m 0 c).A w = V m c (Pipeline.arrRef (cfg0.spec) w) := w.elim0

def bodyPre (c : Dev nD) (t : Fin cfg0.N) : sProp 𝕄 :=
  iprop((dats m 0 c).Φ t.castSucc ∗ (dats m 0 c).owesAt () t.castSucc ∗ BI.emp)
def bodyPost (c : Dev nD) (t : Fin cfg0.N) : sProp 𝕄 :=
  iprop((dats m 0 c).Φ t.succ ∗ (dats m 0 c).owesAt () t.succ ∗ BI.emp)

/-- The body at the pipeline's one point: from the invariant before it to the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl, show (dats m 0 c).owed t.succ = 0 from rfl]
  iintro ⟨⟨⟨HS0, HS1, HS2, HS3, HS4, HS5, HS6, HS7, HS8, HS9, HS10, HS11, HS12, HS13, HS14, HS15, HS16⟩, Hg, ⟨Hq0, Hq1, Hq2, Hq3, Hq4, Hq5, Hq6, Hq7, Hq8, Hq9⟩, ⟨Hh0, Hh1, Hh2, Hh3, Hh4, Hh5, Hh6, Hh7, Hh8, Hh9, Hh10, Hh11, Hh12, Hh13, Hh14⟩, ⟨HO0, HO1⟩⟩, ⟨%W, -, HW⟩, -⟩
  iapply ((bodyRun c (V m c main_arg2) (V m c main_arg3) (V m c main_arg4) (V m c main_arg0) (V m c main_arg1) (V m c main_arg5) (V m c main_call0_v0) (V m c main_arg7) (V m c main_call0_v1) (V m c main_arg9) (V m c main_call0_v2) (V m c main_arg11) (V m c main_call0_v3) (V m c main_arg13) (V m c main_arg14)) W _)
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [HO0]; · iexact HO0
  isplitl [HO1]; · iexact HO1
  isplitl [HW]; · iexact HW
  iintro ⟨HS0, HS1, HS2, HS3, HS4, HS5, HS6, HS7, HS8, HS9, HS10, HS11, HS12, HS13, HS14, HS15, HS16, Hq0, Hq1, Hq2, Hq3, Hq4, Hq5, Hq6, Hq7, Hq8, Hq9, Hh0, Hh1, Hh2, Hh3, Hh4, Hh5, Hh6, Hh7, Hh8, Hh9, Hh10, Hh11, Hh12, Hh13, Hh14, HO0, HO1, ⟨%W', HW'⟩⟩
  isplitl [HS0 HS1 HS2 HS3 HS4 HS5 HS6 HS7 HS8 HS9 HS10 HS11 HS12 HS13 HS14 HS15 HS16 Hq0 Hq1 Hq2 Hq3 Hq4 Hq5 Hq6 Hq7 Hq8 Hq9 Hh0 Hh1 Hh2 Hh3 Hh4 Hh5 Hh6 Hh7 Hh8 Hh9 Hh10 Hh11 Hh12 Hh13 Hh14 Hg HO0 HO1]
  · isplitl [HS0 HS1 HS2 HS3 HS4 HS5 HS6 HS7 HS8 HS9 HS10 HS11 HS12 HS13 HS14 HS15 HS16]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      iexact HS16
    isplitl [Hg]; · iexact Hg
    isplitl [Hq0 Hq1 Hq2 Hq3 Hq4 Hq5 Hq6 Hq7 Hq8 Hq9]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      iexact Hq9
    isplitl [Hh0 Hh1 Hh2 Hh3 Hh4 Hh5 Hh6 Hh7 Hh8 Hh9 Hh10 Hh11 Hh12 Hh13 Hh14]
    · isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      isplitl [Hh9]; · iexact Hh9
      isplitl [Hh10]; · iexact Hh10
      isplitl [Hh11]; · iexact Hh11
      isplitl [Hh12]; · iexact Hh12
      isplitl [Hh13]; · iexact Hh13
      iexact Hh14
    isplitl [HO0]; · iexact HO0
    iexact HO1
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem noWindows (Φ : Fin cfg0.W → sProp 𝕄) : bigSep (Finset.univ : Finset (Fin cfg0.W)) Φ = BI.emp := by
  rw [show (Finset.univ : Finset (Fin cfg0.W)) = ∅ from rfl]; exact BI.bigSep_empty

theorem body_obligation (c : Dev nD) : BodyObligation (dats (F := F) m 0 c) (defs₀ (F := F)) Variants.none () Set.univ := fun t => by
  rw [noWindows, noWindows, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The frame: the program terminates without a fault, its argument arrays end as they began, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c),
      ((h.1 c).2 main_arg10 (Finset.mem_sdiff.mpr ⟨Pipeline.mem_restRefs_of main_arg10 (by decide) (by decide), by decide⟩)).trans (V_main_arg10 m c),
      ((h.1 c).2 main_arg11 (Finset.mem_sdiff.mpr ⟨Pipeline.mem_restRefs_of main_arg11 (by decide) (by decide), by decide⟩)).trans (V_main_arg11 m c),
      ((h.1 c).2 main_arg12 (Finset.mem_sdiff.mpr ⟨Pipeline.mem_restRefs_of main_arg12 (by decide) (by decide), by decide⟩)).trans (V_main_arg12 m c),
      ((h.1 c).2 main_arg13 (Finset.mem_sdiff.mpr ⟨Pipeline.mem_restRefs_of main_arg13 (by decide) (by decide), by decide⟩)).trans (V_main_arg13 m c),
      ((h.1 c).2 main_arg14 (Finset.mem_sdiff.mpr ⟨Pipeline.mem_restRefs_of main_arg14 (by decide) (by decide), by decide⟩)).trans (V_main_arg14 m c)⟩, h.2⟩) (run_main m ρ)

end Cert.Kernel.Hand

end
-- ==== Proof.KernelIdealVals.lean ====
/-
  What the body leaves in the two results, as a function of the arrays in HBM: the payload chain over whole arrays, and the
  readings of loads and row-block copies this takes.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Batch
public import Idealize.ShloMosaic.Lib.Tactic
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's algebra beside the transfers' counters. -/
local notation "𝕄" => MT nD τ sig Unit (Elt F) ℕ (Pipeline.UD sig nD τ) ℕ

/-! ## The body's operands -/

abbrev sc0 : Memref sig .tc .vmem S30x30 .f32 := Memref.whole cc0_scratch0
abbrev sc1 : Memref sig .tc .vmem S5000x30 .f32 := Memref.whole cc0_scratch1
abbrev sc2 : Memref sig .tc .vmem S5000x30 .f32 := Memref.whole cc0_scratch2
abbrev sc3 : Memref sig .tc .vmem S5000x64 .f32 := Memref.whole cc0_scratch3
abbrev sc4 : Memref sig .tc .vmem S5000x64 .f32 := Memref.whole cc0_scratch4
abbrev sc5 : Memref sig .tc .vmem S1800x1024 .f32 := Memref.whole cc0_scratch5
abbrev sc6 : Memref sig .tc .vmem S1x1024 .f32 := Memref.whole cc0_scratch6
abbrev sc7 : Memref sig .tc .vmem S1024x1024 .f32 := Memref.whole cc0_scratch7
abbrev sc8 : Memref sig .tc .vmem S1x1024 .f32 := Memref.whole cc0_scratch8
abbrev sc9 : Memref sig .tc .vmem S1024x1024 .f32 := Memref.whole cc0_scratch9
abbrev sc10 : Memref sig .tc .vmem S1x1024 .f32 := Memref.whole cc0_scratch10
abbrev sc11 : Memref sig .tc .vmem S1024x1800 .f32 := Memref.whole cc0_scratch11
abbrev sc12 : Memref sig .tc .vmem S1x1800 .f32 := Memref.whole cc0_scratch12
abbrev sc13 : Memref sig .tc .vmem S2x64x128 .f32 := Memref.whole cc0_scratch13
abbrev sc14 : Memref sig .tc .vmem S1x128 .f32 := Memref.whole cc0_scratch14
abbrev sc15 : Memref sig .tc .vmem S5000x128 .f32 := Memref.whole cc0_scratch15
abbrev sc16 : Memref sig .tc .vmem S5000x128 .f32 := Memref.whole cc0_scratch16
abbrev hb0 : Memref sig .tc .hbm S30x30 .f32 := Memref.whole main_arg2
abbrev hb1 : Memref sig .tc .hbm S5000x30 .f32 := Memref.whole main_arg3
abbrev hb2 : Memref sig .tc .hbm S5000x30 .f32 := Memref.whole main_arg4
abbrev hb3 : Memref sig .tc .hbm S5000x64 .f32 := Memref.whole main_arg0
abbrev hb4 : Memref sig .tc .hbm S5000x64 .f32 := Memref.whole main_arg1
abbrev hb5 : Memref sig .tc .hbm S1800x1024 .f32 := Memref.whole main_arg5
abbrev hb6 : Memref sig .tc .hbm S1x1024 .f32 := Memref.whole main_call0_v0
abbrev hb7 : Memref sig .tc .hbm S1024x1024 .f32 := Memref.whole main_arg7
abbrev hb8 : Memref sig .tc .hbm S1x1024 .f32 := Memref.whole main_call0_v1
abbrev hb9 : Memref sig .tc .hbm S1024x1024 .f32 := Memref.whole main_arg9
abbrev hb10 : Memref sig .tc .hbm S1x1024 .f32 := Memref.whole main_call0_v2
abbrev hb11 : Memref sig .tc .hbm S1024x1800 .f32 := Memref.whole main_arg11
abbrev hb12 : Memref sig .tc .hbm S1x1800 .f32 := Memref.whole main_call0_v3
abbrev hb13 : Memref sig .tc .hbm S2x64x128 .f32 := Memref.whole main_arg13
abbrev hb14 : Memref sig .tc .hbm S1x128 .f32 := Memref.whole main_arg14
abbrev ou0 : Memref sig .tc .hbm S5000x128 .f32 := Memref.whole main_v0_0
abbrev ou1 : Memref sig .tc .hbm S5000x128 .f32 := Memref.whole main_v0_1

/-- The contents of the buffer a whole memref names, on core `c`. -/
abbrev Bf (c : Dev nD) {sp : Space} {S : Shape} {e : EltTy} (M : Memref sig .tc sp S e) : Type := Buf (Elt F) (M.view.loc (c : Thread nD τ))
/-- The buffer a whole memref names, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-! ## Loads and copies read back -/

/-- Unmasked writes that each put the same array's own elements, and together fill the shape, leave that array. -/
theorem canon_of_parts {s : Shape} {e : EltTy} (X : s.Idx → Elt F e) : ∀ (L : List (View.Piece (Elt F) s e)) (y : s.Idx),
    (∀ p ∈ L, p.2 = View.ld X p.1) → (∃ p ∈ L, y ∈ p.1.set) → View.canon L y = X y
  | [], _, _, h => by obtain ⟨_, hm, _⟩ := h; exact absurd hm List.not_mem_nil
  | p :: L, y, hp, h => by
    by_cases hy : y ∈ p.1.set
    · obtain ⟨r, w⟩ := p
      obtain ⟨x, rfl⟩ : ∃ x, r.emb x = y := r.exists_idx_of_mem hy
      rw [View.canon_cons_emb]
      exact congrFun (hp ⟨r, w⟩ List.mem_cons_self) x
    · rw [View.canon_cons_of_not_mem p L hy]
      refine canon_of_parts X L y (fun q hq => hp q (List.mem_cons_of_mem _ hq)) ?_
      obtain ⟨q, hq, hyq⟩ := h
      rcases List.mem_cons.mp hq with rfl | hq
      · exact absurd hyq hy
      · exact ⟨q, hq, hyq⟩

/-- An index lies in a block of whole rows when its row does. -/
theorem mem_rows {m n k a : Nat} (inb : ∀ i, (![k, 0] : Fin 2 → Nat) i + (![a, n] : Fin 2 → Nat) i ≤ (⟨2, ![m, n]⟩ : Shape).size i)
    (y : (⟨2, ![m, n]⟩ : Shape).Idx) (h1 : k ≤ (y 0).val) (h2 : (y 0).val < k + a) :
    y ∈ (Rect.unit (s := ⟨2, ![m, n]⟩) ![k, 0] ![a, n] inb).set := by
  rw [Rect.mem_set_unit]
  intro i
  have hy : (y 1).val < n := (y 1).isLt
  match i with
  | 0 => exact ⟨h1, h2⟩
  | 1 => exact ⟨Nat.zero_le _, by show (y 1).val < 0 + n; omega⟩

/-- A load of the whole of an array. -/
theorem ld_all2 {m n : Nat} {e : EltTy} (w : (⟨2, ![m, n]⟩ : Shape).Idx → Elt F e) (inb) :
    View.ld w (Rect.unit (s := ⟨2, ![m, n]⟩) ![0, 0] ![m, n] inb) = w :=
  View.ld_unit_zero (funext fun a => by fin_cases a <;> rfl) inb w

/-- A load of a part of a buffer a copy filled reads that part of what was copied. -/
theorem load_part {s : Shape} {sp : Space} {e : EltTy} (v : View sig .tc sp s e) (f : v.ty.Contents (Elt F)) (w : s.Idx → Elt F e) (r : Rect s) :
    v.readAt (Elt F) r.toLoadRect (v.write (Elt F) f w Finset.univ) = View.ld w r := by
  rw [View.readAt_eq_ld, View.read_write_univ]

/-- A load of all of it reads all of what was copied. -/
theorem load_whole2 {m n : Nat} {sp : Space} {e : EltTy} (v : View sig .tc sp ⟨2, ![m, n]⟩ e) (f : v.ty.Contents (Elt F))
    (w : (⟨2, ![m, n]⟩ : Shape).Idx → Elt F e) (inb) :
    v.readAt (Elt F) (Rect.unit (s := ⟨2, ![m, n]⟩) ![0, 0] ![m, n] inb).toLoadRect (v.write (Elt F) f w Finset.univ) = w :=
  (load_part v f w _).trans (ld_all2 w inb)

/-- A copy out of the rows last stored takes what was stored. -/
theorem read_back {s : Shape} {sp : Space} {e : EltTy} (v : View sig .tc sp s e) (r : Rect s) (f : v.ty.Contents (Elt F))
    (p : r.shape.Idx → Elt F e) (L : List (View.Piece (Elt F) s e)) :
    View.read (Elt F) (v.slice r) (v.writes (Elt F) f (⟨r, p⟩ :: L)) = p :=
  View.read_write_univ (v := v.slice r) _ _

/-- A function at equal arguments. -/
theorem c2 {α1 α2 β : Type} (f : α1 → α2 → β) {a1 b1 : α1} {a2 b2 : α2} (h1 : a1 = b1) (h2 : a2 = b2) :
    f a1 a2 = f b1 b2 := by subst h1; subst h2; rfl

/-- A function at equal arguments. -/
theorem c3 {α1 α2 α3 β : Type} (f : α1 → α2 → α3 → β) {a1 b1 : α1} {a2 b2 : α2} {a3 b3 : α3} (h1 : a1 = b1) (h2 : a2 = b2) (h3 : a3 = b3) :
    f a1 a2 a3 = f b1 b2 b3 := by subst h1; subst h2; subst h3; rfl

/-- A function at equal arguments. -/
theorem c4 {α1 α2 α3 α4 β : Type} (f : α1 → α2 → α3 → α4 → β) {a1 b1 : α1} {a2 b2 : α2} {a3 b3 : α3} {a4 b4 : α4} (h1 : a1 = b1) (h2 : a2 = b2) (h3 : a3 = b3) (h4 : a4 = b4) :
    f a1 a2 a3 a4 = f b1 b2 b3 b4 := by subst h1; subst h2; subst h3; subst h4; rfl

/-- A function at equal arguments. -/
theorem c5 {α1 α2 α3 α4 α5 β : Type} (f : α1 → α2 → α3 → α4 → α5 → β) {a1 b1 : α1} {a2 b2 : α2} {a3 b3 : α3} {a4 b4 : α4} {a5 b5 : α5} (h1 : a1 = b1) (h2 : a2 = b2) (h3 : a3 = b3) (h4 : a4 = b4) (h5 : a5 = b5) :
    f a1 a2 a3 a4 a5 = f b1 b2 b3 b4 b5 := by subst h1; subst h2; subst h3; subst h4; subst h5; rfl

/-- A function at equal arguments. -/
theorem c6 {α1 α2 α3 α4 α5 α6 β : Type} (f : α1 → α2 → α3 → α4 → α5 → α6 → β) {a1 b1 : α1} {a2 b2 : α2} {a3 b3 : α3} {a4 b4 : α4} {a5 b5 : α5} {a6 b6 : α6} (h1 : a1 = b1) (h2 : a2 = b2) (h3 : a3 = b3) (h4 : a4 = b4) (h5 : a5 = b5) (h6 : a6 = b6) :
    f a1 a2 a3 a4 a5 a6 = f b1 b2 b3 b4 b5 b6 := by subst h1; subst h2; subst h3; subst h4; subst h5; subst h6; rfl

/-- A function at equal arguments. -/
theorem c7 {α1 α2 α3 α4 α5 α6 α7 β : Type} (f : α1 → α2 → α3 → α4 → α5 → α6 → α7 → β) {a1 b1 : α1} {a2 b2 : α2} {a3 b3 : α3} {a4 b4 : α4} {a5 b5 : α5} {a6 b6 : α6} {a7 b7 : α7} (h1 : a1 = b1) (h2 : a2 = b2) (h3 : a3 = b3) (h4 : a4 = b4) (h5 : a5 = b5) (h6 : a6 = b6) (h7 : a7 = b7) :
    f a1 a2 a3 a4 a5 a6 a7 = f b1 b2 b3 b4 b5 b6 b7 := by subst h1; subst h2; subst h3; subst h4; subst h5; subst h6; subst h7; rfl

/-- A weight copied in five blocks of rows and loaded whole. -/
theorem five_blocks {n : Nat} {sp : Space} {e : EltTy} (v : View sig .tc sp ⟨2, ![1800, n]⟩ e) (X : (⟨2, ![1800, n]⟩ : Shape).Idx → Elt F e)
    (i0 i1 i2 i3 i4 inb) :
    v.readCov [⟨Rect.unit ![1440, 0] ![360, n] i4, View.ld X _⟩, ⟨Rect.unit ![1080, 0] ![360, n] i3, View.ld X _⟩,
      ⟨Rect.unit ![720, 0] ![360, n] i2, View.ld X _⟩, ⟨Rect.unit ![360, 0] ![360, n] i1, View.ld X _⟩,
      ⟨Rect.unit ![0, 0] ![360, n] i0, View.ld X _⟩] (Rect.unit ![0, 0] ![1800, n] inb).toLoadRect = X := by
  rw [View.readCov_eq_canon']
  refine Eq.trans (b := View.ld (View.canon _) (Rect.unit (s := ⟨2, ![1800, n]⟩) ![0, 0] ![1800, n] inb)) rfl ?_
  rw [ld_all2]
  funext y
  refine canon_of_parts X _ y (by intro p hp; simp only [List.mem_cons, List.not_mem_nil, or_false] at hp; rcases hp with rfl | rfl | rfl | rfl | rfl <;> rfl) ?_
  have hy : (y 0).val < 1800 := (y 0).isLt
  by_cases h1 : (y 0).val < 360
  · exact ⟨_, List.mem_cons_of_mem _ (List.mem_cons_of_mem _ (List.mem_cons_of_mem _ (List.mem_cons_of_mem _ (List.mem_cons_self)))), mem_rows i0 y (by omega) (by omega)⟩
  by_cases h2 : (y 0).val < 720
  · exact ⟨_, List.mem_cons_of_mem _ (List.mem_cons_of_mem _ (List.mem_cons_of_mem _ List.mem_cons_self)), mem_rows i1 y (by omega) (by omega)⟩
  by_cases h3 : (y 0).val < 1080
  · exact ⟨_, List.mem_cons_of_mem _ (List.mem_cons_of_mem _ List.mem_cons_self), mem_rows i2 y (by omega) (by omega)⟩
  by_cases h4 : (y 0).val < 1440
  · exact ⟨_, List.mem_cons_of_mem _ List.mem_cons_self, mem_rows i3 y (by omega) (by omega)⟩
  · exact ⟨_, List.mem_cons_self, mem_rows i4 y (by omega) (by omega)⟩

/-- A weight copied in four blocks of rows and loaded whole. -/
theorem four_blocks {n : Nat} {sp : Space} {e : EltTy} (v : View sig .tc sp ⟨2, ![1024, n]⟩ e) (X : (⟨2, ![1024, n]⟩ : Shape).Idx → Elt F e)
    (i0 i1 i2 i3 inb) :
    v.readCov [⟨Rect.unit ![768, 0] ![256, n] i3, View.ld X _⟩, ⟨Rect.unit ![512, 0] ![256, n] i2, View.ld X _⟩,
      ⟨Rect.unit ![256, 0] ![256, n] i1, View.ld X _⟩, ⟨Rect.unit ![0, 0] ![256, n] i0, View.ld X _⟩]
      (Rect.unit ![0, 0] ![1024, n] inb).toLoadRect = X := by
  rw [View.readCov_eq_canon']
  refine Eq.trans (b := View.ld (View.canon _) (Rect.unit (s := ⟨2, ![1024, n]⟩) ![0, 0] ![1024, n] inb)) rfl ?_
  rw [ld_all2]
  funext y
  refine canon_of_parts X _ y (by intro p hp; simp only [List.mem_cons, List.not_mem_nil, or_false] at hp; rcases hp with rfl | rfl | rfl | rfl <;> rfl) ?_
  have hy : (y 0).val < 1024 := (y 0).isLt
  by_cases h1 : (y 0).val < 256
  · exact ⟨_, List.mem_cons_of_mem _ (List.mem_cons_of_mem _ (List.mem_cons_of_mem _ (List.mem_cons_self))), mem_rows i0 y (by omega) (by omega)⟩
  by_cases h2 : (y 0).val < 512
  · exact ⟨_, List.mem_cons_of_mem _ (List.mem_cons_of_mem _ List.mem_cons_self), mem_rows i1 y (by omega) (by omega)⟩
  by_cases h3 : (y 0).val < 768
  · exact ⟨_, List.mem_cons_of_mem _ List.mem_cons_self, mem_rows i2 y (by omega) (by omega)⟩
  · exact ⟨_, List.mem_cons_self, mem_rows i3 y (by omega) (by omega)⟩

/-- The five row blocks of a result fill it. -/
theorem out_cover {e : EltTy} (i0 i1 i2 i3 i4) (p0 p1 p2 p3 p4) (y : S5000x128.Idx) :
    ∃ p ∈ ([⟨Rect.unit ![4000, 0] S1000x128.size i4, p4⟩, ⟨Rect.unit ![3000, 0] S1000x128.size i3, p3⟩,
      ⟨Rect.unit ![2000, 0] S1000x128.size i2, p2⟩, ⟨Rect.unit ![1000, 0] S1000x128.size i1, p1⟩,
      ⟨Rect.unit ![0, 0] S1000x128.size i0, p0⟩] : List (View.Piece (Elt F) S5000x128 e)), y ∈ p.1.set := by
  have hy : (y 0).val < 5000 := (y 0).isLt
  by_cases h1 : (y 0).val < 1000
  · exact ⟨_, List.mem_cons_of_mem _ (List.mem_cons_of_mem _ (List.mem_cons_of_mem _ (List.mem_cons_of_mem _ List.mem_cons_self))), mem_rows i0 y (by omega) (by omega)⟩
  by_cases h2 : (y 0).val < 2000
  · exact ⟨_, List.mem_cons_of_mem _ (List.mem_cons_of_mem _ (List.mem_cons_of_mem _ List.mem_cons_self)), mem_rows i1 y (by omega) (by omega)⟩
  by_cases h3 : (y 0).val < 3000
  · exact ⟨_, List.mem_cons_of_mem _ (List.mem_cons_of_mem _ List.mem_cons_self), mem_rows i2 y (by omega) (by omega)⟩
  by_cases h4 : (y 0).val < 4000
  · exact ⟨_, List.mem_cons_of_mem _ List.mem_cons_self, mem_rows i3 y (by omega) (by omega)⟩
  · exact ⟨_, List.mem_cons_self, mem_rows i4 y (by omega) (by omega)⟩

/-- A whole buffer written in pieces that fill it holds the pieces, whatever it held. -/
theorem whole_writes (b : Ref sig .tc) (f) (L) (h : ∀ y, ∃ p ∈ L, y ∈ p.1.set) :
    View.writes (View.whole b) (Elt F) f L = View.canon L :=
  (View.read_whole b _).symm.trans (View.read_writes_eq_canon (View.whole b) f L h)

/-- Result 0 after its five row blocks are copied out holds them, whatever it held. -/
theorem out0_canon (f : ou0.view.ty.Contents (Elt F)) (i0 i1 i2 i3 i4) (p0 p1 p2 p3 p4) :
    (ou0.view.writes (Elt F) f ([⟨Rect.unit ![4000, 0] S1000x128.size i4, p4⟩, ⟨Rect.unit ![3000, 0] S1000x128.size i3, p3⟩,
      ⟨Rect.unit ![2000, 0] S1000x128.size i2, p2⟩, ⟨Rect.unit ![1000, 0] S1000x128.size i1, p1⟩,
      ⟨Rect.unit ![0, 0] S1000x128.size i0, p0⟩] : List (View.Piece (Elt F) S5000x128 .f32)) : S5000x128.Idx → Elt F .f32)
      = View.canon (Val := Elt F) (e := .f32) ([⟨Rect.unit ![4000, 0] S1000x128.size i4, p4⟩, ⟨Rect.unit ![3000, 0] S1000x128.size i3, p3⟩,
      ⟨Rect.unit ![2000, 0] S1000x128.size i2, p2⟩, ⟨Rect.unit ![1000, 0] S1000x128.size i1, p1⟩,
      ⟨Rect.unit ![0, 0] S1000x128.size i0, p0⟩] : List (View.Piece (Elt F) S5000x128 .f32)) :=
  whole_writes main_v0_0 f _ (out_cover i0 i1 i2 i3 i4 p0 p1 p2 p3 p4)

/-- Result 1 after its five row blocks are copied out holds them, whatever it held. -/
theorem out1_canon (f : ou1.view.ty.Contents (Elt F)) (i0 i1 i2 i3 i4) (p0 p1 p2 p3 p4) :
    (ou1.view.writes (Elt F) f ([⟨Rect.unit ![4000, 0] S1000x128.size i4, p4⟩, ⟨Rect.unit ![3000, 0] S1000x128.size i3, p3⟩,
      ⟨Rect.unit ![2000, 0] S1000x128.size i2, p2⟩, ⟨Rect.unit ![1000, 0] S1000x128.size i1, p1⟩,
      ⟨Rect.unit ![0, 0] S1000x128.size i0, p0⟩] : List (View.Piece (Elt F) S5000x128 .f32)) : S5000x128.Idx → Elt F .f32)
      = View.canon (Val := Elt F) (e := .f32) ([⟨Rect.unit ![4000, 0] S1000x128.size i4, p4⟩, ⟨Rect.unit ![3000, 0] S1000x128.size i3, p3⟩,
      ⟨Rect.unit ![2000, 0] S1000x128.size i2, p2⟩, ⟨Rect.unit ![1000, 0] S1000x128.size i1, p1⟩,
      ⟨Rect.unit ![0, 0] S1000x128.size i0, p0⟩] : List (View.Piece (Elt F) S5000x128 .f32)) :=
  whole_writes main_v0_1 f _ (out_cover i0 i1 i2 i3 i4 p0 p1 p2 p3 p4)

/-- The canon of five pieces at equal payloads. -/
theorem canon5 {i0 i1 i2 i3 i4} {p0 p1 p2 p3 p4 q0 q1 q2 q3 q4} (e4 : p4 = q4) (e3 : p3 = q3) (e2 : p2 = q2) (e1 : p1 = q1) (e0 : p0 = q0) :
    View.canon (Val := Elt F) (e := .f32) ([⟨Rect.unit ![4000, 0] S1000x128.size i4, p4⟩, ⟨Rect.unit ![3000, 0] S1000x128.size i3, p3⟩,
      ⟨Rect.unit ![2000, 0] S1000x128.size i2, p2⟩, ⟨Rect.unit ![1000, 0] S1000x128.size i1, p1⟩,
      ⟨Rect.unit ![0, 0] S1000x128.size i0, p0⟩] : List (View.Piece (Elt F) S5000x128 .f32))
      = View.canon (Val := Elt F) (e := .f32) ([⟨Rect.unit ![4000, 0] S1000x128.size i4, q4⟩, ⟨Rect.unit ![3000, 0] S1000x128.size i3, q3⟩,
      ⟨Rect.unit ![2000, 0] S1000x128.size i2, q2⟩, ⟨Rect.unit ![1000, 0] S1000x128.size i1, q1⟩,
      ⟨Rect.unit ![0, 0] S1000x128.size i0, q0⟩] : List (View.Piece (Elt F) S5000x128 .f32)) := by
  subst e0; subst e1; subst e2; subst e3; subst e4; rfl

/-! ## The two results -/

/-- The network's 1800 outputs. -/
def coef (T : FVec F S30x30 .f32) (W1 : FVec F S1800x1024 .f32) (b1 : FVec F S1x1024 .f32) (W2 : FVec F S1024x1024 .f32) (b2 : FVec F S1x1024 .f32)
    (W3 : FVec F S1024x1024 .f32) (b3 : FVec F S1x1024 .f32) (W4 : FVec F S1024x1800 .f32) (b4 : FVec F S1x1800 .f32) : FVec F S1x1800 .f32 :=
  k0_pay5 (k0_pay3 (k0_pay2 (k0_pay1 T) W1 b1) W2 b2 W3 b3) k0_pay4 W4 b4

/-- The filter of scale 0, the filter of scale 1. -/
def cw0 (cw : FVec F S2x64x128 .f32) : FVec F S1x64x128 .f32 := View.ld (Val := Elt F) (e' := .f32) cw (Rect.unit ![0, 0, 0] S1x64x128.size inb_S2x64x128_S1x64x128_0_0_0)
def cw1 (cw : FVec F S2x64x128 .f32) : FVec F S1x64x128 .f32 := View.ld (Val := Elt F) (e' := .f32) cw (Rect.unit ![1, 0, 0] S1x64x128.size inb_S2x64x128_S1x64x128_1_0_0)

/-- The filtered coefficients the real rows of `Q` multiply (`pu`) and the imaginary ones do (`pv`). -/
def pu (Qr Qi : FVec F S5000x30 .f32) (xr xi : FVec F S5000x64 .f32) (C : FVec F S1x1800 .f32) (cw : FVec F S2x64x128 .f32) : FVec F S30x128 .f32 :=
  k0_pay21 (k0_pay13 Qi xi (k0_pay6 Qr xr) (cw0 cw)) (k0_pay14 Qi xi (k0_pay6 Qr xr) (cw1 cw)) (k0_pay17 C)
    (iota .tc S60x30 32 [0] iota_S60x30_d0_w32) (iota .tc S60x30 32 [1] iota_S60x30_d1_w32) k0_pay18
def pv (Qr Qi : FVec F S5000x30 .f32) (xr xi : FVec F S5000x64 .f32) (C : FVec F S1x1800 .f32) (cw : FVec F S2x64x128 .f32) : FVec F S30x128 .f32 :=
  k0_pay22 (k0_pay15 (k0_pay7 Qr xi) (k0_pay8 Qi xr) (cw0 cw)) (k0_pay16 (k0_pay7 Qr xi) (k0_pay8 Qi xr) (cw1 cw)) (k0_pay17 C)
    (iota .tc S60x30 32 [0] iota_S60x30_d0_w32) (iota .tc S60x30 32 [1] iota_S60x30_d1_w32) k0_pay18

/-- One block of a thousand rows of the real result, of the imaginary result. -/
def blockR (U V : FVec F S30x128 .f32) (cb : FVec F S1x128 .f32) (qr qi : FVec F S1000x30 .f32) : FVec F S1000x128 .f32 := k0_pay34 U V cb qr qi
def blockI (U V : FVec F S30x128 .f32) (cb : FVec F S1x128 .f32) (qr qi : FVec F S1000x30 .f32) : FVec F S1000x128 .f32 := k0_pay35 U V cb qr qi

/-- Rows 0 to 999 of `Q`. -/
def rows0 (Q : FVec F S5000x30 .f32) : FVec F S1000x30 .f32 := View.ld (Val := Elt F) (e' := .f32) Q (Rect.unit ![0, 0] S1000x30.size inb_S5000x30_S1000x30_0_0)
/-- Rows 1000 to 1999 of `Q`. -/
def rows1 (Q : FVec F S5000x30 .f32) : FVec F S1000x30 .f32 := View.ld (Val := Elt F) (e' := .f32) Q (Rect.unit ![1000, 0] S1000x30.size inb_S5000x30_S1000x30_1000_0)
/-- Rows 2000 to 2999 of `Q`. -/
def rows2 (Q : FVec F S5000x30 .f32) : FVec F S1000x30 .f32 := View.ld (Val := Elt F) (e' := .f32) Q (Rect.unit ![2000, 0] S1000x30.size inb_S5000x30_S1000x30_2000_0)
/-- Rows 3000 to 3999 of `Q`. -/
def rows3 (Q : FVec F S5000x30 .f32) : FVec F S1000x30 .f32 := View.ld (Val := Elt F) (e' := .f32) Q (Rect.unit ![3000, 0] S1000x30.size inb_S5000x30_S1000x30_3000_0)
/-- Rows 4000 to 4999 of `Q`. -/
def rows4 (Q : FVec F S5000x30 .f32) : FVec F S1000x30 .f32 := View.ld (Val := Elt F) (e' := .f32) Q (Rect.unit ![4000, 0] S1000x30.size inb_S5000x30_S1000x30_4000_0)

/-- The real result's contents. -/
def outR (U V : FVec F S30x128 .f32) (cb : FVec F S1x128 .f32) (Qr Qi : FVec F S5000x30 .f32) : FVec F S5000x128 .f32 :=
  View.canon (Val := Elt F) (e := .f32) [⟨Rect.unit ![4000, 0] S1000x128.size inb_S5000x128_S1000x128_4000_0, blockR U V cb (rows4 Qr) (rows4 Qi)⟩,
    ⟨Rect.unit ![3000, 0] S1000x128.size inb_S5000x128_S1000x128_3000_0, blockR U V cb (rows3 Qr) (rows3 Qi)⟩,
    ⟨Rect.unit ![2000, 0] S1000x128.size inb_S5000x128_S1000x128_2000_0, blockR U V cb (rows2 Qr) (rows2 Qi)⟩,
    ⟨Rect.unit ![1000, 0] S1000x128.size inb_S5000x128_S1000x128_1000_0, blockR U V cb (rows1 Qr) (rows1 Qi)⟩,
    ⟨Rect.unit ![0, 0] S1000x128.size inb_S5000x128_S1000x128_0_0, blockR U V cb (rows0 Qr) (rows0 Qi)⟩]
/-- The imaginary result's contents. -/
def outI (U V : FVec F S30x128 .f32) (cb : FVec F S1x128 .f32) (Qr Qi : FVec F S5000x30 .f32) : FVec F S5000x128 .f32 :=
  View.canon (Val := Elt F) (e := .f32) [⟨Rect.unit ![4000, 0] S1000x128.size inb_S5000x128_S1000x128_4000_0, blockI U V cb (rows4 Qr) (rows4 Qi)⟩,
    ⟨Rect.unit ![3000, 0] S1000x128.size inb_S5000x128_S1000x128_3000_0, blockI U V cb (rows3 Qr) (rows3 Qi)⟩,
    ⟨Rect.unit ![2000, 0] S1000x128.size inb_S5000x128_S1000x128_2000_0, blockI U V cb (rows2 Qr) (rows2 Qi)⟩,
    ⟨Rect.unit ![1000, 0] S1000x128.size inb_S5000x128_S1000x128_1000_0, blockI U V cb (rows1 Qr) (rows1 Qi)⟩,
    ⟨Rect.unit ![0, 0] S1000x128.size inb_S5000x128_S1000x128_0_0, blockI U V cb (rows0 Qr) (rows0 Qi)⟩]

/-- The two results of the arrays in HBM, in the order the kernel takes them. -/
def res0 (T : FVec F S30x30 .f32) (Qr Qi : FVec F S5000x30 .f32) (xr xi : FVec F S5000x64 .f32) (W1 : FVec F S1800x1024 .f32) (b1 : FVec F S1x1024 .f32)
    (W2 : FVec F S1024x1024 .f32) (b2 : FVec F S1x1024 .f32) (W3 : FVec F S1024x1024 .f32) (b3 : FVec F S1x1024 .f32) (W4 : FVec F S1024x1800 .f32) (b4 : FVec F S1x1800 .f32)
    (cw : FVec F S2x64x128 .f32) (cb : FVec F S1x128 .f32) : FVec F S5000x128 .f32 :=
  outR (pu Qr Qi xr xi (coef T W1 b1 W2 b2 W3 b3 W4 b4) cw) (pv Qr Qi xr xi (coef T W1 b1 W2 b2 W3 b3 W4 b4) cw) cb Qr Qi
def res1 (T : FVec F S30x30 .f32) (Qr Qi : FVec F S5000x30 .f32) (xr xi : FVec F S5000x64 .f32) (W1 : FVec F S1800x1024 .f32) (b1 : FVec F S1x1024 .f32)
    (W2 : FVec F S1024x1024 .f32) (b2 : FVec F S1x1024 .f32) (W3 : FVec F S1024x1024 .f32) (b3 : FVec F S1x1024 .f32) (W4 : FVec F S1024x1800 .f32) (b4 : FVec F S1x1800 .f32)
    (cw : FVec F S2x64x128 .f32) (cb : FVec F S1x128 .f32) : FVec F S5000x128 .f32 :=
  outI (pu Qr Qi xr xi (coef T W1 b1 W2 b2 W3 b3 W4 b4) cw) (pv Qr Qi xr xi (coef T W1 b1 W2 b2 W3 b3 W4 b4) cw) cb Qr Qi

end Cert.KernelIdeal.Hand

end
-- ==== Proof.KernelIdealBody.lean ====
/-
  The body's run, with the values it leaves. The body stages no window: it copies its operands from HBM into scratch buffers on its own DMA
  semaphores, computes, and copies the result out by rows. `bodyRun` runs it once: several copies of one size share a
  semaphore (the row blocks of a weight, the two halves of `Q`, of `x`, and the ten copies out), and each such group is planned as one
  batch; the five small operands share one at different sizes, and their batch is stated with its amounts and deliveries.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Batch
public import Idealize.ShloMosaic.Lib.MixedBatch
public import Idealize.ShloMosaic.Lib.Tactic
public import proofs.«01_k».proof.Proof.KernelIdealVals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's algebra beside the transfers' counters. -/
local notation "𝕄" => MT nD τ sig Unit (Elt F) ℕ (Pipeline.UD sig nD τ) ℕ

/-- The elements of an operand a copy of the whole of it borrows. -/
abbrev lent (c : Dev nD) {S : Shape} {e : EltTy} (M : Memref sig .tc .hbm S e) (f : Bf (F := F) c M) : sProp 𝕄 :=
  M.view.loc (c : Thread nD τ) ↦[M.view.set]{fullShare} f
/-- A landed copy of a whole array: the source's contents written over the destination's. -/
abbrev landed (c : Dev nD) {S : Shape} {e : EltTy} (src : Memref sig .tc .hbm S e) (dst : Memref sig .tc .vmem S e) (f : Bf (F := F) c src) (g : Bf (F := F) c dst) : Bf (F := F) c dst :=
  dst.view.write (Elt F) g (ReadAs.same.apply (src.view.read (Elt F) f)) Finset.univ
/-- What the five copies on the semaphore of the small operands deliver, in the order they start: the destination filled, the source back. -/
abbrev smallD (c : Dev nD) (h6 : Bf (F := F) c hb6) (h8 : Bf (F := F) c hb8) (h10 : Bf (F := F) c hb10) (h13 : Bf (F := F) c hb13) (h14 : Bf (F := F) c hb14)
    (s6 : Bf (F := F) c sc6) (s8 : Bf (F := F) c sc8) (s10 : Bf (F := F) c sc10) (s13 : Bf (F := F) c sc13) (s14 : Bf (F := F) c sc14) : Fin 5 → sProp 𝕄
  | 0 => iprop(pt c sc6 (landed c hb6 sc6 h6 s6) ∗ lent c hb6 h6)
  | 1 => iprop(pt c sc8 (landed c hb8 sc8 h8 s8) ∗ lent c hb8 h8)
  | 2 => iprop(pt c sc10 (landed c hb10 sc10 h10 s10) ∗ lent c hb10 h10)
  | 3 => iprop(pt c sc13 (landed c hb13 sc13 h13 s13) ∗ lent c hb13 h13)
  | 4 => iprop(pt c sc14 (landed c hb14 sc14 h14 s14) ∗ lent c hb14 h14)
/-- Their amounts. -/
abbrev smallA : Fin 5 → ℕ := ![128, 128, 128, 2048, 16]
instance smallD_storable (c : Dev nD) (h6 : Bf (F := F) c hb6) (h8 : Bf (F := F) c hb8) (h10 : Bf (F := F) c hb10) (h13 : Bf (F := F) c hb13) (h14 : Bf (F := F) c hb14)
    (s6 : Bf (F := F) c sc6) (s8 : Bf (F := F) c sc8) (s10 : Bf (F := F) c sc10) (s13 : Bf (F := F) c sc13) (s14 : Bf (F := F) c sc14) (t : Fin 5) :
    Storable (upEmb : UEmb _ 𝕄) (smallD c h6 h8 h10 h13 h14 s6 s8 s10 s13 s14 t) := by
  fin_cases t <;> (dsimp only [smallD]; infer_instance)

set_option maxHeartbeats 4000000 in
set_option sl_exec.dmaWindow true in
/-- The body's run: from the operands in HBM held whole, the scratch buffers and the two results at anything, and every DMA
    counter at zero, to the operands as they were, the counters back at zero and the two results at `res0` and `res1`. -/
theorem bodyRun (c : Dev nD) (h0 : Bf (F := F) c hb0) (h1 : Bf (F := F) c hb1) (h2 : Bf (F := F) c hb2) (h3 : Bf (F := F) c hb3) (h4 : Bf (F := F) c hb4) (h5 : Bf (F := F) c hb5) (h6 : Bf (F := F) c hb6) (h7 : Bf (F := F) c hb7) (h8 : Bf (F := F) c hb8) (h9 : Bf (F := F) c hb9) (h10 : Bf (F := F) c hb10) (h11 : Bf (F := F) c hb11) (h12 : Bf (F := F) c hb12) (h13 : Bf (F := F) c hb13) (h14 : Bf (F := F) c hb14) :
    ∀ (W : Waits sig Unit) (K : PUnit → sProp 𝕄),
        iprop((∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f) ∗ (∃ f, pt c sc10 f) ∗ (∃ f, pt c sc11 f) ∗ (∃ f, pt c sc12 f) ∗ (∃ f, pt c sc13 f) ∗ (∃ f, pt c sc14 f) ∗ (∃ f, pt c sc15 f) ∗ (∃ f, pt c sc16 f)
            ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
            ∗ pt c hb0 h0 ∗ pt c hb1 h1 ∗ pt c hb2 h2 ∗ pt c hb3 h3 ∗ pt c hb4 h4 ∗ pt c hb5 h5 ∗ pt c hb6 h6 ∗ pt c hb7 h7 ∗ pt c hb8 h8 ∗ pt c hb9 h9 ∗ pt c hb10 h10 ∗ pt c hb11 h11 ∗ pt c hb12 h12 ∗ pt c hb13 h13 ∗ pt c hb14 h14
            ∗ (∃ f, pt c ou0 f) ∗ (∃ f, pt c ou1 f)
            ∗ owes (c : Thread nD τ) 0 W
            ∗ (iprop((∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f) ∗ (∃ f, pt c sc10 f) ∗ (∃ f, pt c sc11 f) ∗ (∃ f, pt c sc12 f) ∗ (∃ f, pt c sc13 f) ∗ (∃ f, pt c sc14 f) ∗ (∃ f, pt c sc15 f) ∗ (∃ f, pt c sc16 f)
                ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
                ∗ pt c hb0 h0 ∗ pt c hb1 h1 ∗ pt c hb2 h2 ∗ pt c hb3 h3 ∗ pt c hb4 h4 ∗ pt c hb5 h5 ∗ pt c hb6 h6 ∗ pt c hb7 h7 ∗ pt c hb8 h8 ∗ pt c hb9 h9 ∗ pt c hb10 h10 ∗ pt c hb11 h11 ∗ pt c hb12 h12 ∗ pt c hb13 h13 ∗ pt c hb14 h14
                ∗ (∃ g, pt c ou0 g ∗ ⌜g = res0 h0 h1 h2 h3 h4 h5 h6 h7 h8 h9 h10 h11 h12 h13 h14⌝) ∗ (∃ g, pt c ou1 g ∗ ⌜g = res1 h0 h1 h2 h3 h4 h5 h6 h7 h8 h9 h10 h11 h12 h13 h14⌝)
                ∗ (∃ W', owes (c : Thread nD τ) 0 W')) -∗ K ⟨⟩))
          ⊢ wp frame (wpE (defs₀ (F := F)) Variants.none c none) Set.univ
              (cc0__body hb0 (Memref.isWhole_whole _) hb1 (Memref.isWhole_whole _) hb2 (Memref.isWhole_whole _) hb3 (Memref.isWhole_whole _) hb4 (Memref.isWhole_whole _) hb5 (Memref.isWhole_whole _) hb6 (Memref.isWhole_whole _) hb7 (Memref.isWhole_whole _) hb8 (Memref.isWhole_whole _) hb9 (Memref.isWhole_whole _) hb10 (Memref.isWhole_whole _) hb11 (Memref.isWhole_whole _) hb12 (Memref.isWhole_whole _) hb13 (Memref.isWhole_whole _) hb14 (Memref.isWhole_whole _) ou0 (Memref.isWhole_whole _) ou1 (Memref.isWhole_whole _) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) sc16 (Memref.isWhole_whole _) cc0_scratch17 cc0_scratch18 cc0_scratch19 cc0_scratch20 cc0_scratch21 cc0_scratch22 cc0_scratch23 cc0_scratch24 cc0_scratch25 cc0_scratch26) K := by
  intro W K
  ·
    simp only [cc0__body_eq_skeleton]; unfold cc0__body_skel
    have _p1 : Transfers.BatchOf (c : Thread nD τ) (SemLoc.dma (sig := sig) 1) 2 (windows := true) := trivial
    have _p2 : Transfers.BatchOf (c : Thread nD τ) (SemLoc.dma (sig := sig) 2) 5 (windows := true) := trivial
    have _p3 : Transfers.BatchOf (c : Thread nD τ) (SemLoc.dma (sig := sig) 3) 4 (windows := true) := trivial
    have _p4 : Transfers.BatchOf (c : Thread nD τ) (SemLoc.dma (sig := sig) 4) 4 (windows := true) := trivial
    have _p5 : Transfers.BatchOf (c : Thread nD τ) (SemLoc.dma (sig := sig) 5) 4 (windows := true) := trivial
    have _p7 : Transfers.BatchOf (c : Thread nD τ) (SemLoc.dma (sig := sig) 7) 10 (windows := true) := trivial
    have _p8 : Transfers.BatchOf (c : Thread nD τ) (SemLoc.dma (sig := sig) 8) 2 (windows := true) := trivial
    iintro ⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩, ⟨%s13, HS13⟩, ⟨%s14, HS14⟩, ⟨%s15, HS15⟩, ⟨%s16, HS16⟩, Hq0, Hq1, Hq2, Hq3, Hq4, Hq5, Hq6, Hq7, Hq8, Hq9, Hh0, Hh1, Hh2, Hh3, Hh4, Hh5, Hh6, Hh7, Hh8, Hh9, Hh10, Hh11, Hh12, Hh13, Hh14, ⟨%o0, HO0⟩, ⟨%o1, HO1⟩, HW, Hk⟩
    imod (Transfers.mixedBatch_alloc' (Lvl := ℕ) (countersEmb (U := Pipeline.UD sig nD τ)) (c : Thread nD τ) () smallA (smallD c h6 h8 h10 h13 h14 s6 s8 s10 s13 s14) (sm := .dma 6) (E := Set.univ)) $$ Hq6 with HB
    sl_exec_parts
    sl_step
    have e_v : bodyRun.sl.v c h5  = h5 := five_blocks _ _ _ _ _ _ _ _
    have e_v92 : bodyRun.sl.v92 c h7  = h7 := four_blocks _ _ _ _ _ _ _
    have e_v106 : bodyRun.sl.v106 c h9  = h9 := four_blocks _ _ _ _ _ _ _
    have e_v120 : bodyRun.sl.v120 c h11  = h11 := four_blocks _ _ _ _ _ _ _
    have e_r : bodyRun.sl.r c h0 s0 = k0_pay1 h0 := congrArg k0_pay1 (load_whole2 _ _ _ _)
    have e_r_1 : bodyRun.sl.r_1 c h0 h5 h6 s0 s6 = k0_pay2 (k0_pay1 h0) h5 h6 := c3 k0_pay2 e_r e_v (load_whole2 _ _ _ _)
    have e_r_2 : bodyRun.sl.r_2 c h0 h5 h6 h7 h8 h9 h10 s0 s6 s8 s10 = k0_pay3 (k0_pay2 (k0_pay1 h0) h5 h6) h7 h8 h9 h10 := c5 k0_pay3 e_r_1 e_v92 (load_whole2 _ _ _ _) e_v106 (load_whole2 _ _ _ _)
    have e_r_3 : bodyRun.sl.r_3 c h0 h5 h6 h7 h8 h9 h10 h11 h12 s0 s6 s8 s10 s12 = (coef h0 h5 h6 h7 h8 h9 h10 h11 h12) := c4 k0_pay5 e_r_2 rfl e_v120 (load_whole2 _ _ _ _)
    have e_r_4 : bodyRun.sl.r_4 c h2 s2 = h2 := (load_whole2 _ _ _ _)
    have e_r_5 : bodyRun.sl.r_5 c h4 s4 = h4 := (load_whole2 _ _ _ _)
    have e_r_6 : bodyRun.sl.r_6 c h1 h3 s1 s3 = k0_pay6 h1 h3 := c2 k0_pay6 (load_whole2 _ _ _ _) (load_whole2 _ _ _ _)
    have e_r_7 : bodyRun.sl.r_7 c h1 h4 s1 s4 = k0_pay7 h1 h4 := c2 k0_pay7 (load_whole2 _ _ _ _) (load_whole2 _ _ _ _)
    have e_r_8 : bodyRun.sl.r_8 c h2 h3 s2 s3 = k0_pay8 h2 h3 := c2 k0_pay8 (load_whole2 _ _ _ _) (load_whole2 _ _ _ _)
    have e_r_9 : bodyRun.sl.r_9 c h1 h2 h3 h4 h13 s1 s2 s3 s4 s13 = k0_pay13 h2 h4 (k0_pay6 h1 h3) (cw0 h13) := c4 k0_pay13 e_r_4 e_r_5 e_r_6 (load_part _ _ _ _)
    have e_r_10 : bodyRun.sl.r_10 c h1 h2 h3 h4 h13 s1 s2 s3 s4 s13 = k0_pay14 h2 h4 (k0_pay6 h1 h3) (cw1 h13) := c4 k0_pay14 e_r_4 e_r_5 e_r_6 (load_part _ _ _ _)
    have e_r_11 : bodyRun.sl.r_11 c h1 h2 h3 h4 h13 s1 s2 s3 s4 s13 = k0_pay15 (k0_pay7 h1 h4) (k0_pay8 h2 h3) (cw0 h13) := c3 k0_pay15 e_r_7 e_r_8 (load_part _ _ _ _)
    have e_r_12 : bodyRun.sl.r_12 c h1 h2 h3 h4 h13 s1 s2 s3 s4 s13 = k0_pay16 (k0_pay7 h1 h4) (k0_pay8 h2 h3) (cw1 h13) := c3 k0_pay16 e_r_7 e_r_8 (load_part _ _ _ _)
    have e_r_13 : bodyRun.sl.r_13 c h0 h5 h6 h7 h8 h9 h10 h11 h12 s0 s6 s8 s10 s12 = k0_pay17 (coef h0 h5 h6 h7 h8 h9 h10 h11 h12) := congrArg k0_pay17 e_r_3
    have e_r_14 : bodyRun.sl.r_14 c h0 h1 h2 h3 h4 h5 h6 h7 h8 h9 h10 h11 h12 h13 s0 s1 s2 s3 s4 s6 s8 s10 s12 s13 = (pu h1 h2 h3 h4 (coef h0 h5 h6 h7 h8 h9 h10 h11 h12) h13) := c6 k0_pay21 e_r_9 e_r_10 e_r_13 rfl rfl rfl
    have e_r_15 : bodyRun.sl.r_15 c h0 h1 h2 h3 h4 h5 h6 h7 h8 h9 h10 h11 h12 h13 s0 s1 s2 s3 s4 s6 s8 s10 s12 s13 = (pv h1 h2 h3 h4 (coef h0 h5 h6 h7 h8 h9 h10 h11 h12) h13) := c6 k0_pay22 e_r_11 e_r_12 e_r_13 rfl rfl rfl
    have e_r_16 : bodyRun.sl.r_16 c h14 s14 = h14 := (load_whole2 _ _ _ _)
    have e_r_17 : bodyRun.sl.r_17 c h1 s1 = rows0 h1 := (load_part _ _ _ _)
    have e_r_18 : bodyRun.sl.r_18 c h2 s2 = rows0 h2 := (load_part _ _ _ _)
    have e_r_22 : bodyRun.sl.r_22 c h1 s1 = rows4 h1 := (load_part _ _ _ _)
    have e_r_19 : bodyRun.sl.r_19 c h0 h1 h2 h3 h4 h5 h6 h7 h8 h9 h10 h11 h12 h13 s0 s1 s2 s3 s4 s6 s8 s10 s12 s13 = k0_pay23 (k0_pay13 h2 h4 (k0_pay6 h1 h3) (cw0 h13)) (k0_pay14 h2 h4 (k0_pay6 h1 h3) (cw1 h13)) (k0_pay17 (coef h0 h5 h6 h7 h8 h9 h10 h11 h12)) (iota .tc S60x30 32 [0] iota_S60x30_d0_w32) (iota .tc S60x30 32 [1] iota_S60x30_d1_w32) k0_pay18 (rows0 h1) := c7 k0_pay23 e_r_9 e_r_10 e_r_13 rfl rfl rfl (load_part _ _ _ _)
    have e_r_20 : bodyRun.sl.r_20 c h0 h1 h2 h3 h4 h5 h6 h7 h8 h9 h10 h11 h12 h13 s0 s1 s2 s3 s4 s6 s8 s10 s12 s13 = k0_pay27 (pu h1 h2 h3 h4 (coef h0 h5 h6 h7 h8 h9 h10 h11 h12) h13) (rows1 h2) := c2 k0_pay27 e_r_14 (load_part _ _ _ _)
    have e_r_21 : bodyRun.sl.r_21 c h0 h1 h2 h3 h4 h5 h6 h7 h8 h9 h10 h11 h12 h13 s0 s1 s2 s3 s4 s6 s8 s10 s12 s13 = k0_pay28 (pv h1 h2 h3 h4 (coef h0 h5 h6 h7 h8 h9 h10 h11 h12) h13) (rows1 h1) := c2 k0_pay28 e_r_15 (load_part _ _ _ _)
    iapply Hk
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HB_dst0]; · iexists _; iexact HB_dst0
    isplitl [HS7]; · iexists _; iexact HS7
    isplitl [HB_dst1]; · iexists _; iexact HB_dst1
    isplitl [HS9]; · iexists _; iexact HS9
    isplitl [HB_dst2]; · iexists _; iexact HB_dst2
    isplitl [HS11]; · iexists _; iexact HS11
    isplitl [HS12]; · iexists _; iexact HS12
    isplitl [HB_dst3]; · iexists _; iexact HB_dst3
    isplitl [HB_dst4]; · iexists _; iexact HB_dst4
    isplitl [HS15]; · iexists _; iexact HS15
    isplitl [HS16]; · iexists _; iexact HS16
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [HB]; · iexact HB
    isplitl [Hq7]; · iexact Hq7
    isplitl [Hq8]; · iexact Hq8
    isplitl [Hq9]; · iexact Hq9
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [HO0]
    · iexists _
      isplitl [HO0]; · iexact HO0
      ipureintro
      refine (out0_canon _ _ _ _ _ _ _ _ _ _ _).trans (canon5 ?_ ?_ ?_ ?_ ?_)
      · exact (read_back sc15.view (Rect.unit ![4000, 0] S1000x128.size inb_S5000x128_S1000x128_4000_0) _ _ _).trans (c5 k0_pay34 e_r_14 e_r_15 e_r_16 e_r_22 (load_part _ _ _ _))
      · exact (read_back sc15.view (Rect.unit ![3000, 0] S1000x128.size inb_S5000x128_S1000x128_3000_0) _ _ _).trans (c5 k0_pay32 e_r_14 e_r_15 e_r_16 (load_part _ _ _ _) (load_part _ _ _ _))
      · exact (read_back sc15.view (Rect.unit ![2000, 0] S1000x128.size inb_S5000x128_S1000x128_2000_0) _ _ _).trans (c5 k0_pay30 e_r_14 e_r_15 e_r_16 (load_part _ _ _ _) (load_part _ _ _ _))
      · exact (read_back sc15.view (Rect.unit ![1000, 0] S1000x128.size inb_S5000x128_S1000x128_1000_0) _ _ _).trans (c5 k0_pay26 e_r_14 e_r_15 e_r_16 (load_part _ _ _ _) (load_part _ _ _ _))
      · exact (read_back sc15.view (Rect.unit ![0, 0] S1000x128.size inb_S5000x128_S1000x128_0_0) _ _ _).trans (c5 k0_pay24 e_r_15 e_r_16 e_r_18 e_r_19 rfl)
    isplitl [HO1]
    · iexists _
      isplitl [HO1]; · iexact HO1
      ipureintro
      refine (out1_canon _ _ _ _ _ _ _ _ _ _ _).trans (canon5 ?_ ?_ ?_ ?_ ?_)
      · exact (read_back sc16.view (Rect.unit ![4000, 0] S1000x128.size inb_S5000x128_S1000x128_4000_0) _ _ _).trans (c5 k0_pay35 e_r_14 e_r_15 e_r_16 e_r_22 (load_part _ _ _ _))
      · exact (read_back sc16.view (Rect.unit ![3000, 0] S1000x128.size inb_S5000x128_S1000x128_3000_0) _ _ _).trans (c5 k0_pay33 e_r_14 e_r_15 e_r_16 (load_part _ _ _ _) (load_part _ _ _ _))
      · exact (read_back sc16.view (Rect.unit ![2000, 0] S1000x128.size inb_S5000x128_S1000x128_2000_0) _ _ _).trans (c5 k0_pay31 e_r_14 e_r_15 e_r_16 (load_part _ _ _ _) (load_part _ _ _ _))
      · exact (read_back sc16.view (Rect.unit ![1000, 0] S1000x128.size inb_S5000x128_S1000x128_1000_0) _ _ _).trans (c3 k0_pay29 e_r_16 e_r_20 e_r_21)
      · exact (read_back sc16.view (Rect.unit ![0, 0] S1000x128.size inb_S5000x128_S1000x128_0_0) _ _ _).trans (c5 k0_pay25 e_r_14 e_r_15 e_r_16 e_r_17 e_r_18)
    iexists _; iexact HW

end Cert.KernelIdeal.Hand

end
-- ==== Proof.KernelIdealRun.lean ====
/-
  The run of the whole program, with the values of its two results. The body (`KernelIdealBody`) is run once between the
  invariant that holds the results at what the region finds and the one that holds them at `res0` and `res1`; the launch
  theorem for a kernel that writes its results by its own copies then gives the run.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Batch
public import Idealize.ShloMosaic.Lib.Tactic
public import proofs.«01_k».proof.Proof.KernelIdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource model: the pipeline library's algebra beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The launch's set-up -/

/-- The two results, which the body writes by its own copies. -/
def R0 : Finset (Ref sig .tc) := {main_v0_0, main_v0_1}
/-- The arrays in HBM the body's copies read. -/
def H0 : Finset (Ref sig .tc) := {main_arg2, main_arg3, main_arg4, main_arg0, main_arg1, main_arg5, main_call0_v0, main_arg7, main_call0_v1, main_arg9, main_call0_v2, main_arg11, main_call0_v3, main_arg13, main_arg14}
theorem H0_sub : H0 ⊆ Pipeline.restRefs sig (cfg0.spec) := by decide
theorem R0_sub : R0 ⊆ Pipeline.restRefs sig (cfg0.spec) \ H0 := by decide

/-- The body's ten DMA semaphores. -/
abbrev osem0 : Fin 10 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9] : Fin 10 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3, 4, 5, 6, 7, 8, 9] (by decide) (by decide)]; rfl

set_option maxHeartbeats 800000 in
/-- The host operations before the region, then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem hbmPts0_eq (c : Dev nD) :
    (bigSep H0 (fun b => ((c : Thread nD τ).loc b) ↦{fullShare} V m c b) : sProp 𝕄)
      = iprop(pt c hb0 (V m c main_arg2) ∗ pt c hb1 (V m c main_arg3) ∗ pt c hb2 (V m c main_arg4) ∗ pt c hb3 (V m c main_arg0) ∗ pt c hb4 (V m c main_arg1) ∗ pt c hb5 (V m c main_arg5) ∗ pt c hb6 (V m c main_call0_v0) ∗ pt c hb7 (V m c main_arg7) ∗ pt c hb8 (V m c main_call0_v1) ∗ pt c hb9 (V m c main_arg9) ∗ pt c hb10 (V m c main_call0_v2) ∗ pt c hb11 (V m c main_arg11) ∗ pt c hb12 (V m c main_call0_v3) ∗ pt c hb13 (V m c main_arg13) ∗ pt c hb14 (V m c main_arg14)) := by
  rw [BI.bigSep_eq_bigSepL_of_eq [main_arg2, main_arg3, main_arg4, main_arg0, main_arg1, main_arg5, main_call0_v0, main_arg7, main_call0_v1, main_arg9, main_call0_v2, main_arg11, main_call0_v3, main_arg13, main_arg14] (by decide) (by decide)]; rfl

/-! ## The results -/

/-- The first result, at what the region finds in its operands. -/
def val0 (c : Dev nD) : FVec F S5000x128 .f32 := res0 (V m c main_arg2) (V m c main_arg3) (V m c main_arg4) (V m c main_arg0) (V m c main_arg1) (V m c main_arg5) (V m c main_call0_v0) (V m c main_arg7) (V m c main_call0_v1) (V m c main_arg9) (V m c main_call0_v2) (V m c main_arg11) (V m c main_call0_v3) (V m c main_arg13) (V m c main_arg14)
/-- The second. -/
def val1 (c : Dev nD) : FVec F S5000x128 .f32 := res1 (V m c main_arg2) (V m c main_arg3) (V m c main_arg4) (V m c main_arg0) (V m c main_arg1) (V m c main_arg5) (V m c main_call0_v0) (V m c main_arg7) (V m c main_call0_v1) (V m c main_arg9) (V m c main_call0_v2) (V m c main_arg11) (V m c main_call0_v3) (V m c main_arg13) (V m c main_arg14)

/-- The buffers when the region ends: the two results at their values. -/
def G (c : Dev nD) : (b : Ref sig .tc) → Buf (Elt F) ((c.tc : Thread nD τ).loc b) :=
  Function.update (Function.update (V m c) main_v0_0 (val0 m c)) main_v0_1 (val1 m c)

theorem G_0 (c : Dev nD) : G m c main_v0_0 = val0 m c := by
  unfold G; rw [Function.update_of_ne (show main_v0_0 ≠ main_v0_1 by decide), Function.update_self]
theorem G_1 (c : Dev nD) : G m c main_v0_1 = val1 m c := by
  unfold G; rw [Function.update_self]

theorem routed_eq (c : Dev nD) (W : (b : Ref sig .tc) → Buf (Elt F) ((c.tc : Thread nD τ).loc b)) :
    (Pipeline.routed R0 c W : sProp 𝕄) = iprop(pt c ou0 (W main_v0_0) ∗ pt c ou1 (W main_v0_1)) := by
  unfold Pipeline.routed; rw [BI.bigSep_eq_bigSepL_of_eq [main_v0_0, main_v0_1] (by decide) (by decide)]; rfl

set_option maxHeartbeats 2000000 in
theorem PhiDRG_eq (W : (c : Dev nD) → (b : Ref sig .tc) → Buf (Elt F) ((c.tc : Thread nD τ).loc b)) (c : Dev nD) :
    (Pipeline.ΦDRG osem0 (cfg0.spec) H0 R0 (V m) W c : sProp 𝕄)
      = iprop(iprop((∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f) ∗ (∃ f, pt c sc10 f) ∗ (∃ f, pt c sc11 f) ∗ (∃ f, pt c sc12 f) ∗ (∃ f, pt c sc13 f) ∗ (∃ f, pt c sc14 f) ∗ (∃ f, pt c sc15 f) ∗ (∃ f, pt c sc16 f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
          ∗ iprop(pt c hb0 (V m c main_arg2) ∗ pt c hb1 (V m c main_arg3) ∗ pt c hb2 (V m c main_arg4) ∗ pt c hb3 (V m c main_arg0) ∗ pt c hb4 (V m c main_arg1) ∗ pt c hb5 (V m c main_arg5) ∗ pt c hb6 (V m c main_call0_v0) ∗ pt c hb7 (V m c main_arg7) ∗ pt c hb8 (V m c main_call0_v1) ∗ pt c hb9 (V m c main_arg9) ∗ pt c hb10 (V m c main_call0_v2) ∗ pt c hb11 (V m c main_arg11) ∗ pt c hb12 (V m c main_call0_v3) ∗ pt c hb13 (V m c main_arg13) ∗ pt c hb14 (V m c main_arg14))
          ∗ iprop(pt c ou0 (W c main_v0_0) ∗ pt c ou1 (W c main_v0_1))) := by
  rw [Pipeline.ΦDRG_eq, scopedRest0_eq, ownSems00_eq, hbmPts0_eq, routed_eq]; try rfl

/-- The proof data of the one pipeline, which stages no window: the invariant before its one point and after it. -/
def dats (_ : Fin 1) (c : Dev nD) : Dat τ (Elt F) Unit ℕ (Pipeline.UD sig nD τ) ℕ cfg0 c where
  A w := w.elim0
  after w t := w.elim0
  Φ t := if t.val = 0 then Pipeline.ΦDRG osem0 (cfg0.spec) H0 R0 (V m) (V m) c else Pipeline.ΦDRG osem0 (cfg0.spec) H0 R0 (V m) (G m) c
  q _ := fullShare
  owed _ := 0

theorem Phi_castSucc (c : Dev nD) (t : Fin cfg0.N) :
    (dats m 0 c).Φ t.castSucc = Pipeline.ΦDRG osem0 (cfg0.spec) H0 R0 (V m) (V m) c := by
  have h : t.castSucc.val = 0 := by have := t.isLt; have h1 : cfg0.N = 1 := rfl; show t.val = 0; omega
  unfold dats; dsimp only; rw [if_pos h]
theorem Phi_succ (c : Dev nD) (t : Fin cfg0.N) :
    (dats m 0 c).Φ t.succ = Pipeline.ΦDRG osem0 (cfg0.spec) H0 R0 (V m) (G m) c := by
  have h : ¬ t.succ.val = 0 := Nat.succ_ne_zero t.val
  unfold dats; dsimp only; rw [if_neg h]

theorem A_eq (c : Dev nD) (w : Fin cfg0.W) : (dats m 0 c).A w = V m c (Pipeline.arrRef (cfg0.spec) w) := w.elim0

def bodyPre (c : Dev nD) (t : Fin cfg0.N) : sProp 𝕄 :=
  iprop((dats m 0 c).Φ t.castSucc ∗ (dats m 0 c).owesAt () t.castSucc ∗ BI.emp)
def bodyPost (c : Dev nD) (t : Fin cfg0.N) : sProp 𝕄 :=
  iprop((dats m 0 c).Φ t.succ ∗ (dats m 0 c).owesAt () t.succ ∗ BI.emp)

/-- The body at the pipeline's one point: from the invariant before it to the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_castSucc, Phi_succ, PhiDRG_eq, PhiDRG_eq, G_0, G_1]
  unfold Dat.owesAt Pipeline.owesWithin
  rw [show (dats m 0 c).owed t.castSucc = 0 from rfl, show (dats m 0 c).owed t.succ = 0 from rfl]
  iintro ⟨⟨⟨HS0, HS1, HS2, HS3, HS4, HS5, HS6, HS7, HS8, HS9, HS10, HS11, HS12, HS13, HS14, HS15, HS16⟩, Hg, ⟨Hq0, Hq1, Hq2, Hq3, Hq4, Hq5, Hq6, Hq7, Hq8, Hq9⟩, ⟨Hh0, Hh1, Hh2, Hh3, Hh4, Hh5, Hh6, Hh7, Hh8, Hh9, Hh10, Hh11, Hh12, Hh13, Hh14⟩, ⟨HO0, HO1⟩⟩, ⟨%W, -, HW⟩, -⟩
  iapply ((bodyRun c (V m c main_arg2) (V m c main_arg3) (V m c main_arg4) (V m c main_arg0) (V m c main_arg1) (V m c main_arg5) (V m c main_call0_v0) (V m c main_arg7) (V m c main_call0_v1) (V m c main_arg9) (V m c main_call0_v2) (V m c main_arg11) (V m c main_call0_v3) (V m c main_arg13) (V m c main_arg14)) W _)
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [HO0]; · iexists _; iexact HO0
  isplitl [HO1]; · iexists _; iexact HO1
  isplitl [HW]; · iexact HW
  iintro ⟨HS0, HS1, HS2, HS3, HS4, HS5, HS6, HS7, HS8, HS9, HS10, HS11, HS12, HS13, HS14, HS15, HS16, Hq0, Hq1, Hq2, Hq3, Hq4, Hq5, Hq6, Hq7, Hq8, Hq9, Hh0, Hh1, Hh2, Hh3, Hh4, Hh5, Hh6, Hh7, Hh8, Hh9, Hh10, Hh11, Hh12, Hh13, Hh14, HO0, HO1, ⟨%W', HW'⟩⟩
  isplitl [HS0 HS1 HS2 HS3 HS4 HS5 HS6 HS7 HS8 HS9 HS10 HS11 HS12 HS13 HS14 HS15 HS16 Hq0 Hq1 Hq2 Hq3 Hq4 Hq5 Hq6 Hq7 Hq8 Hq9 Hh0 Hh1 Hh2 Hh3 Hh4 Hh5 Hh6 Hh7 Hh8 Hh9 Hh10 Hh11 Hh12 Hh13 Hh14 Hg HO0 HO1]
  · isplitl [HS0 HS1 HS2 HS3 HS4 HS5 HS6 HS7 HS8 HS9 HS10 HS11 HS12 HS13 HS14 HS15 HS16]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      iexact HS16
    isplitl [Hg]; · iexact Hg
    isplitl [Hq0 Hq1 Hq2 Hq3 Hq4 Hq5 Hq6 Hq7 Hq8 Hq9]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      iexact Hq9
    isplitl [Hh0 Hh1 Hh2 Hh3 Hh4 Hh5 Hh6 Hh7 Hh8 Hh9 Hh10 Hh11 Hh12 Hh13 Hh14]
    · isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      isplitl [Hh9]; · iexact Hh9
      isplitl [Hh10]; · iexact Hh10
      isplitl [Hh11]; · iexact Hh11
      isplitl [Hh12]; · iexact Hh12
      isplitl [Hh13]; · iexact Hh13
      iexact Hh14
    isplitl [HO0]
    · icases HO0 with ⟨%g0, HO0, %e0⟩
      subst e0; iexact HO0
    icases HO1 with ⟨%g1, HO1, %e1⟩
    subst e1; iexact HO1
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem noWindows (Φ : Fin cfg0.W → sProp 𝕄) : bigSep (Finset.univ : Finset (Fin cfg0.W)) Φ = BI.emp := by
  rw [show (Finset.univ : Finset (Fin cfg0.W)) = ∅ from rfl]; exact BI.bigSep_empty

theorem body_obligation (c : Dev nD) : BodyObligation (dats (F := F) m 0 c) (defs₀ (F := F)) Variants.none () Set.univ := fun t => by
  rw [noWindows, noWindows, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := fun _ => .rfl) (hout := fun _ => .rfl)

theorem V_main_call0_v0 (c : Dev nD) : V m c main_call0_v0 = shapeCast S1x1024 (m ((c : Thread nD τ).loc main_arg6)) shapeCasts_S1024_S1x1024 := by
  show StableHlo.after hostOps0 _ (Proc.devRef .tc main_call0_v0) = _
  after_results
  rfl

theorem V_main_call0_v1 (c : Dev nD) : V m c main_call0_v1 = shapeCast S1x1024 (m ((c : Thread nD τ).loc main_arg8)) shapeCasts_S1024_S1x1024 := by
  show StableHlo.after hostOps0 _ (Proc.devRef .tc main_call0_v1) = _
  after_results
  rfl

theorem V_main_call0_v2 (c : Dev nD) : V m c main_call0_v2 = shapeCast S1x1024 (m ((c : Thread nD τ).loc main_arg10)) shapeCasts_S1024_S1x1024 := by
  show StableHlo.after hostOps0 _ (Proc.devRef .tc main_call0_v2) = _
  after_results
  rfl

theorem V_main_call0_v3 (c : Dev nD) : V m c main_call0_v3 = shapeCast S1x1800 (m ((c : Thread nD τ).loc main_arg12)) shapeCasts_S1800_S1x1800 := by
  show StableHlo.after hostOps0 _ (Proc.devRef .tc main_call0_v3) = _
  after_results
  rfl

/-- The first result, at the arguments. -/
theorem val0_eq (c : Dev nD) : val0 m c = res0 (m ((c : Thread nD τ).loc main_arg2)) (m ((c : Thread nD τ).loc main_arg3)) (m ((c : Thread nD τ).loc main_arg4)) (m ((c : Thread nD τ).loc main_arg0)) (m ((c : Thread nD τ).loc main_arg1)) (m ((c : Thread nD τ).loc main_arg5)) (shapeCast S1x1024 (m ((c : Thread nD τ).loc main_arg6)) shapeCasts_S1024_S1x1024) (m ((c : Thread nD τ).loc main_arg7)) (shapeCast S1x1024 (m ((c : Thread nD τ).loc main_arg8)) shapeCasts_S1024_S1x1024) (m ((c : Thread nD τ).loc main_arg9)) (shapeCast S1x1024 (m ((c : Thread nD τ).loc main_arg10)) shapeCasts_S1024_S1x1024) (m ((c : Thread nD τ).loc main_arg11)) (shapeCast S1x1800 (m ((c : Thread nD τ).loc main_arg12)) shapeCasts_S1800_S1x1800) (m ((c : Thread nD τ).loc main_arg13)) (m ((c : Thread nD τ).loc main_arg14)) := by
  unfold val0; rw [V_main_arg2, V_main_arg3, V_main_arg4, V_main_arg0, V_main_arg1, V_main_arg5, V_main_call0_v0, V_main_arg7, V_main_call0_v1, V_main_arg9, V_main_call0_v2, V_main_arg11, V_main_call0_v3, V_main_arg13, V_main_arg14]
/-- The second. -/
theorem val1_eq (c : Dev nD) : val1 m c = res1 (m ((c : Thread nD τ).loc main_arg2)) (m ((c : Thread nD τ).loc main_arg3)) (m ((c : Thread nD τ).loc main_arg4)) (m ((c : Thread nD τ).loc main_arg0)) (m ((c : Thread nD τ).loc main_arg1)) (m ((c : Thread nD τ).loc main_arg5)) (shapeCast S1x1024 (m ((c : Thread nD τ).loc main_arg6)) shapeCasts_S1024_S1x1024) (m ((c : Thread nD τ).loc main_arg7)) (shapeCast S1x1024 (m ((c : Thread nD τ).loc main_arg8)) shapeCasts_S1024_S1x1024) (m ((c : Thread nD τ).loc main_arg9)) (shapeCast S1x1024 (m ((c : Thread nD τ).loc main_arg10)) shapeCasts_S1024_S1x1024) (m ((c : Thread nD τ).loc main_arg11)) (shapeCast S1x1800 (m ((c : Thread nD τ).loc main_arg12)) shapeCasts_S1800_S1x1800) (m ((c : Thread nD τ).loc main_arg13)) (m ((c : Thread nD τ).loc main_arg14)) := by
  unfold val1; rw [V_main_arg2, V_main_arg3, V_main_arg4, V_main_arg0, V_main_arg1, V_main_arg5, V_main_call0_v0, V_main_arg7, V_main_call0_v1, V_main_arg9, V_main_call0_v2, V_main_arg11, V_main_call0_v3, V_main_arg13, V_main_arg14]

/-- The run with its values: the program terminates without a fault, its two results end at `res0` and `res1` of the
    arguments, the arguments end as they began, every semaphore counter ends at zero. -/
theorem run : θ_run defs (onTc (τ := τ) (main (F := F))) ⟨m, fun _ => 0, ρ⟩ (fun r => (∀ c : Dev nD,
      r.2.mem ((c.tc : Thread nD τ).loc main_v0_0) = res0 (m ((c : Thread nD τ).loc main_arg2)) (m ((c : Thread nD τ).loc main_arg3)) (m ((c : Thread nD τ).loc main_arg4)) (m ((c : Thread nD τ).loc main_arg0)) (m ((c : Thread nD τ).loc main_arg1)) (m ((c : Thread nD τ).loc main_arg5)) (shapeCast S1x1024 (m ((c : Thread nD τ).loc main_arg6)) shapeCasts_S1024_S1x1024) (m ((c : Thread nD τ).loc main_arg7)) (shapeCast S1x1024 (m ((c : Thread nD τ).loc main_arg8)) shapeCasts_S1024_S1x1024) (m ((c : Thread nD τ).loc main_arg9)) (shapeCast S1x1024 (m ((c : Thread nD τ).loc main_arg10)) shapeCasts_S1024_S1x1024) (m ((c : Thread nD τ).loc main_arg11)) (shapeCast S1x1800 (m ((c : Thread nD τ).loc main_arg12)) shapeCasts_S1800_S1x1800) (m ((c : Thread nD τ).loc main_arg13)) (m ((c : Thread nD τ).loc main_arg14))
      ∧ r.2.mem ((c.tc : Thread nD τ).loc main_v0_1) = res1 (m ((c : Thread nD τ).loc main_arg2)) (m ((c : Thread nD τ).loc main_arg3)) (m ((c : Thread nD τ).loc main_arg4)) (m ((c : Thread nD τ).loc main_arg0)) (m ((c : Thread nD τ).loc main_arg1)) (m ((c : Thread nD τ).loc main_arg5)) (shapeCast S1x1024 (m ((c : Thread nD τ).loc main_arg6)) shapeCasts_S1024_S1x1024) (m ((c : Thread nD τ).loc main_arg7)) (shapeCast S1x1024 (m ((c : Thread nD τ).loc main_arg8)) shapeCasts_S1024_S1x1024) (m ((c : Thread nD τ).loc main_arg9)) (shapeCast S1x1024 (m ((c : Thread nD τ).loc main_arg10)) shapeCasts_S1024_S1x1024) (m ((c : Thread nD τ).loc main_arg11)) (shapeCast S1x1800 (m ((c : Thread nD τ).loc main_arg12)) shapeCasts_S1800_S1x1800) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => ⟨(h.1.2 c main_v0_0 (by decide)).trans ((G_0 m c).trans (val0_eq m c)),
      (h.1.2 c main_v0_1 (by decide)).trans ((G_1 m c).trans (val1_eq m c)),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c),
      ((h.1.1 c).2 main_arg8 (Finset.mem_sdiff.mpr ⟨Pipeline.mem_restRefs_of main_arg8 (by decide) (by decide), by decide⟩)).trans (V_main_arg8 m c),
      ((h.1.1 c).2 main_arg9 (Finset.mem_sdiff.mpr ⟨Pipeline.mem_restRefs_of main_arg9 (by decide) (by decide), by decide⟩)).trans (V_main_arg9 m c),
      ((h.1.1 c).2 main_arg10 (Finset.mem_sdiff.mpr ⟨Pipeline.mem_restRefs_of main_arg10 (by decide) (by decide), by decide⟩)).trans (V_main_arg10 m c),
      ((h.1.1 c).2 main_arg11 (Finset.mem_sdiff.mpr ⟨Pipeline.mem_restRefs_of main_arg11 (by decide) (by decide), by decide⟩)).trans (V_main_arg11 m c),
      ((h.1.1 c).2 main_arg12 (Finset.mem_sdiff.mpr ⟨Pipeline.mem_restRefs_of main_arg12 (by decide) (by decide), by decide⟩)).trans (V_main_arg12 m c),
      ((h.1.1 c).2 main_arg13 (Finset.mem_sdiff.mpr ⟨Pipeline.mem_restRefs_of main_arg13 (by decide) (by decide), by decide⟩)).trans (V_main_arg13 m c),
      ((h.1.1 c).2 main_arg14 (Finset.mem_sdiff.mpr ⟨Pipeline.mem_restRefs_of main_arg14 (by decide) (by decide), by decide⟩)).trans (V_main_arg14 m c)⟩, h.2⟩) (run_main m ρ)

/-- The frame: the run with its values forgotten. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => (h.1 c).2.2, h.2⟩) (run m ρ)

end Cert.KernelIdeal.Hand

end
-- ==== Proof.Pieces.lean ====
/-
  A concatenation of pieces of one shape, read at an index: where each piece holds its stretch of one family `P` of
  values, numbered along the joined axis, the concatenation holds `P`.
-/
module

public import Idealize.ShloMosaic.Lib.Pointwise

@[expose] public section

noncomputable section

namespace Cert.Pieces

open Idealize.ShloMosaic

variable {α : Type} {t s₁ : Shape} {a : Fin t.rank}

/-- The pieces from number `k0` on, read at position `c` of what is left of the axis. -/
theorem concatenateAt_pieces (j : t.Idx) (hf : s₁.FitsOff t a) (d : Nat) (hd : s₁.size (a.cast hf.rank_eq.symm) = d) (P : Nat → α) :
    ∀ (xs : List (s₁.Idx → α)) (k0 : Nat),
      (∀ (i : Nat) (hi : i < xs.length) (r : s₁.Idx), (∀ b : Fin s₁.rank, b.val ≠ a.val → (r b).val = (j (b.cast hf.rank_eq)).val) →
        xs[i] r = P (d * (k0 + i) + (r (a.cast hf.rank_eq.symm)).val)) →
      ∀ (hs : ∀ s ∈ (xs.map fun x => (⟨s₁, x⟩ : (s : Shape) × (s.Idx → α))).map (·.1), s.FitsOff t a) (c : Nat)
        (hc : c < (axisSizes t a (xs.map fun x => (⟨s₁, x⟩ : (s : Shape) × (s.Idx → α)))).sum),
        concatenateAt t a j (xs.map fun x => ⟨s₁, x⟩) hs c hc = P (d * k0 + c)
  | [], _, _, _, _, hc => absurd hc (Nat.not_lt_zero _)
  | [p], k0, hP, hs, c, hc => by
    simp only [List.map_cons, List.map_nil, concatenateAt, Shape.Idx.norm_def]
    refine (hP 0 Nat.zero_lt_one _ fun b hb => if_neg hb).trans ?_
    simp
  | p :: q :: xs, k0, hP, hs, c, hc => by
    have hs' := fun s h => hs s (List.mem_cons_of_mem _ h)
    simp only [List.map_cons, concatenateAt, Shape.Idx.norm_def]
    split
    · refine (hP 0 (Nat.succ_pos _) _ fun b hb => if_neg hb).trans ?_
      simp
    · rename_i hlt
      refine (concatenateAt_pieces j hf d hd P (q :: xs) (k0 + 1) (fun i hi r hr => ?_) hs' _ _).trans (congrArg P ?_)
      · refine (hP (i + 1) (Nat.succ_lt_succ hi) r hr).trans (congrArg P ?_)
        rw [show k0 + (i + 1) = k0 + 1 + i by omega]
      · have := hd
        change ¬ c < s₁.size (a.cast hf.rank_eq.symm) at hlt
        show d * (k0 + 1) + (c - s₁.size (a.cast hf.rank_eq.symm)) = d * k0 + c
        rw [hd] at hlt ⊢; rw [Nat.mul_add]; omega

/-- The concatenation at an index: the family at the index's axis coordinate. -/
theorem concatenate_pieces (j : t.Idx) (hf : s₁.FitsOff t a) (d : Nat) (hd : s₁.size (a.cast hf.rank_eq.symm) = d) (P : Nat → α)
    (xs : List (s₁.Idx → α))
    (hP : ∀ (i : Nat) (hi : i < xs.length) (r : s₁.Idx), (∀ b : Fin s₁.rank, b.val ≠ a.val → (r b).val = (j (b.cast hf.rank_eq)).val) →
        xs[i] r = P (d * i + (r (a.cast hf.rank_eq.symm)).val))
    (h : Shape.Concatenates ((xs.map fun x => (⟨s₁, x⟩ : (s : Shape) × (s.Idx → α))).map (·.1)) t a) :
    concatenate t a (xs.map fun x => ⟨s₁, x⟩) h j = P (j a).val := by
  rw [concatenate_apply, concatenateAt_pieces j hf d hd P xs 0 (fun i hi r hr => by rw [Nat.zero_add]; exact hP i hi r hr)]
  rw [Nat.mul_zero, Nat.zero_add]

end Cert.Pieces

end
-- ==== Proof.KernelReads.lean ====
/-
  The kernel's payloads read at an index, at exact arithmetic: each matrix product as a sum, the thirty-piece
  concatenations as the row-major reading of a matrix by rows and back.
-/
module

public import proofs.«01_k».proof.Proof.KernelIdealVals
public import proofs.«01_k».proof.Proof.Pieces
public import Idealize.ShloMosaic.Lib.Pointwise

@[expose] public section

set_option maxRecDepth 16384

noncomputable section

namespace Cert.KernelIdeal.Hand

open Cert.KernelIdeal Cert.KernelIdeal.Gen
open Idealize.ShloMosaic

/-! ## The two regroupings -/

/-- Value `60 n + l` of a row of 1800. -/
def P17 (C : FVec Ideal S1x1800 .f32) (l : Fin 60) (n : Nat) : EReal := if h : 60 * n + l.val < 1800 then C (ix2 0 ⟨60 * n + l.val, h⟩) else 0

theorem slice17 (C : FVec Ideal S1x1800 .f32) (l : Fin 60) (n : Nat) (h) (r : S1x60.Idx) (hr : (r 1).val = l.val) :
    extractStridedSlice S1x60 ![0, 60 * n] C h r = P17 C l (1 * n + (r 0).val) := by
  have h0 : (r 0).val = 0 := by have : (r 0).val < 1 := (r 0).isLt; omega
  have hb : 60 * n + l.val < 1800 := by
    have h1 : 60 * n + 60 ≤ 1800 := h.2 1
    have := l.isLt; omega
  rw [h0, P17, dif_pos (by omega)]
  refine congrArg C (funext fun b => Fin.ext ?_)
  match b with
  | ⟨0, _⟩ => show 0 + (r 0).val = 0; omega
  | ⟨1, _⟩ => show 60 * n + (r 1).val = 60 * (1 * n + 0) + l.val; omega

/-- The thirty rows of sixty cut from a row of 1800 and stacked. -/
theorem pay17_at (C : FVec Ideal S1x1800 .f32) (k : Fin 30) (l : Fin 60) :
    k0_pay17 C (ix2 k l) = C (ix2 0 ⟨60 * k.val + l.val, by omega⟩) := by
  refine (Cert.Pieces.concatenate_pieces (s₁ := S1x60) (t := S30x60) (a := 0) (ix2 k l) ⟨rfl, by decide⟩ 1 rfl (P17 C l) [extractStridedSlice S1x60 ![0, 0] C slices_S1x1800_o0_0_S1x60,
    extractStridedSlice S1x60 ![0, 60] C slices_S1x1800_o0_60_S1x60,
    extractStridedSlice S1x60 ![0, 120] C slices_S1x1800_o0_120_S1x60,
    extractStridedSlice S1x60 ![0, 180] C slices_S1x1800_o0_180_S1x60,
    extractStridedSlice S1x60 ![0, 240] C slices_S1x1800_o0_240_S1x60,
    extractStridedSlice S1x60 ![0, 300] C slices_S1x1800_o0_300_S1x60,
    extractStridedSlice S1x60 ![0, 360] C slices_S1x1800_o0_360_S1x60,
    extractStridedSlice S1x60 ![0, 420] C slices_S1x1800_o0_420_S1x60,
    extractStridedSlice S1x60 ![0, 480] C slices_S1x1800_o0_480_S1x60,
    extractStridedSlice S1x60 ![0, 540] C slices_S1x1800_o0_540_S1x60,
    extractStridedSlice S1x60 ![0, 600] C slices_S1x1800_o0_600_S1x60,
    extractStridedSlice S1x60 ![0, 660] C slices_S1x1800_o0_660_S1x60,
    extractStridedSlice S1x60 ![0, 720] C slices_S1x1800_o0_720_S1x60,
    extractStridedSlice S1x60 ![0, 780] C slices_S1x1800_o0_780_S1x60,
    extractStridedSlice S1x60 ![0, 840] C slices_S1x1800_o0_840_S1x60,
    extractStridedSlice S1x60 ![0, 900] C slices_S1x1800_o0_900_S1x60,
    extractStridedSlice S1x60 ![0, 960] C slices_S1x1800_o0_960_S1x60,
    extractStridedSlice S1x60 ![0, 1020] C slices_S1x1800_o0_1020_S1x60,
    extractStridedSlice S1x60 ![0, 1080] C slices_S1x1800_o0_1080_S1x60,
    extractStridedSlice S1x60 ![0, 1140] C slices_S1x1800_o0_1140_S1x60,
    extractStridedSlice S1x60 ![0, 1200] C slices_S1x1800_o0_1200_S1x60,
    extractStridedSlice S1x60 ![0, 1260] C slices_S1x1800_o0_1260_S1x60,
    extractStridedSlice S1x60 ![0, 1320] C slices_S1x1800_o0_1320_S1x60,
    extractStridedSlice S1x60 ![0, 1380] C slices_S1x1800_o0_1380_S1x60,
    extractStridedSlice S1x60 ![0, 1440] C slices_S1x1800_o0_1440_S1x60,
    extractStridedSlice S1x60 ![0, 1500] C slices_S1x1800_o0_1500_S1x60,
    extractStridedSlice S1x60 ![0, 1560] C slices_S1x1800_o0_1560_S1x60,
    extractStridedSlice S1x60 ![0, 1620] C slices_S1x1800_o0_1620_S1x60,
    extractStridedSlice S1x60 ![0, 1680] C slices_S1x1800_o0_1680_S1x60,
    extractStridedSlice S1x60 ![0, 1740] C slices_S1x1800_o0_1740_S1x60]
    (fun i hi r hr => ?_) concatenates_S1x60_S1x60_S1x60_S1x60_S1x60_S1x60_S1x60_S1x60_S1x60_S1x60_S1x60_S1x60_S1x60_S1x60_S1x60_S1x60_S1x60_S1x60_S1x60_S1x60_S1x60_S1x60_S1x60_S1x60_S1x60_S1x60_S1x60_S1x60_S1x60_S1x60_S30x60_d0).trans ?_
  · have hl : (r 1).val = l.val := hr 1 (by decide)
    match i, hi with
    | 0, _ => exact slice17 C l 0 slices_S1x1800_o0_0_S1x60 r hl
    | 1, _ => exact slice17 C l 1 slices_S1x1800_o0_60_S1x60 r hl
    | 2, _ => exact slice17 C l 2 slices_S1x1800_o0_120_S1x60 r hl
    | 3, _ => exact slice17 C l 3 slices_S1x1800_o0_180_S1x60 r hl
    | 4, _ => exact slice17 C l 4 slices_S1x1800_o0_240_S1x60 r hl
    | 5, _ => exact slice17 C l 5 slices_S1x1800_o0_300_S1x60 r hl
    | 6, _ => exact slice17 C l 6 slices_S1x1800_o0_360_S1x60 r hl
    | 7, _ => exact slice17 C l 7 slices_S1x1800_o0_420_S1x60 r hl
    | 8, _ => exact slice17 C l 8 slices_S1x1800_o0_480_S1x60 r hl
    | 9, _ => exact slice17 C l 9 slices_S1x1800_o0_540_S1x60 r hl
    | 10, _ => exact slice17 C l 10 slices_S1x1800_o0_600_S1x60 r hl
    | 11, _ => exact slice17 C l 11 slices_S1x1800_o0_660_S1x60 r hl
    | 12, _ => exact slice17 C l 12 slices_S1x1800_o0_720_S1x60 r hl
    | 13, _ => exact slice17 C l 13 slices_S1x1800_o0_780_S1x60 r hl
    | 14, _ => exact slice17 C l 14 slices_S1x1800_o0_840_S1x60 r hl
    | 15, _ => exact slice17 C l 15 slices_S1x1800_o0_900_S1x60 r hl
    | 16, _ => exact slice17 C l 16 slices_S1x1800_o0_960_S1x60 r hl
    | 17, _ => exact slice17 C l 17 slices_S1x1800_o0_1020_S1x60 r hl
    | 18, _ => exact slice17 C l 18 slices_S1x1800_o0_1080_S1x60 r hl
    | 19, _ => exact slice17 C l 19 slices_S1x1800_o0_1140_S1x60 r hl
    | 20, _ => exact slice17 C l 20 slices_S1x1800_o0_1200_S1x60 r hl
    | 21, _ => exact slice17 C l 21 slices_S1x1800_o0_1260_S1x60 r hl
    | 22, _ => exact slice17 C l 22 slices_S1x1800_o0_1320_S1x60 r hl
    | 23, _ => exact slice17 C l 23 slices_S1x1800_o0_1380_S1x60 r hl
    | 24, _ => exact slice17 C l 24 slices_S1x1800_o0_1440_S1x60 r hl
    | 25, _ => exact slice17 C l 25 slices_S1x1800_o0_1500_S1x60 r hl
    | 26, _ => exact slice17 C l 26 slices_S1x1800_o0_1560_S1x60 r hl
    | 27, _ => exact slice17 C l 27 slices_S1x1800_o0_1620_S1x60 r hl
    | 28, _ => exact slice17 C l 28 slices_S1x1800_o0_1680_S1x60 r hl
    | 29, _ => exact slice17 C l 29 slices_S1x1800_o0_1740_S1x60 r hl
    | k + 30, hk => exact absurd hk (Nat.not_lt.mpr (Nat.le_add_left 30 k))
  · exact dif_pos _

/-- Value `n` of a matrix of thirty rows of sixty read row after row. -/
def P1 (X : FVec Ideal S30x60 .f32) (n : Nat) : EReal := if h : n < 1800 then X (ix2 ⟨n / 60, by omega⟩ ⟨n % 60, by omega⟩) else 0

theorem slice1 (X : FVec Ideal S30x60 .f32) (n : Nat) (h) (r : S1x60.Idx) :
    extractStridedSlice S1x60 ![n, 0] X h r = P1 X (60 * n + (r 1).val) := by
  have h0 : (r 0).val = 0 := by have : (r 0).val < 1 := (r 0).isLt; omega
  have h1 : (r 1).val < 60 := (r 1).isLt
  have hn : n + 1 ≤ 30 := h.2 0
  rw [P1, dif_pos (by omega)]
  refine congrArg X (funext fun b => Fin.ext ?_)
  match b with
  | ⟨0, _⟩ => show n + (r 0).val = (60 * n + (r 1).val) / 60; omega
  | ⟨1, _⟩ => show 0 + (r 1).val = (60 * n + (r 1).val) % 60; omega

/-- The matrix and its square side by side. -/
def cat (T : FVec Ideal S30x30 .f32) : FVec Ideal S30x60 .f32 :=
  concatenate S30x60 1 [⟨S30x30, T⟩, ⟨S30x30, matmul dot_S30x30_S30x30_S30x30_1_0_0_1_n_n none T T (constant S30x30 .f32 0x00000000#32)⟩] concatenates_S30x30_S30x30_S30x60_d1

theorem cat_at (T : FVec Ideal S30x30 .f32) (k : Fin 30) (l : Fin 60) :
    cat T (ix2 k l) = if h : l.val < 30 then T (ix2 k ⟨l.val, h⟩) else ∑ q : Fin 30, T (ix2 k q) * T (ix2 q ⟨l.val - 30, by omega⟩) := by
  pointwise [cat]

/-- The network's input: the two matrices' rows in order. -/
theorem pay1_at (T : FVec Ideal S30x30 .f32) (j : Fin 1800) :
    k0_pay1 T (ix2 0 j) = cat T (ix2 ⟨j.val / 60, by omega⟩ ⟨j.val % 60, by omega⟩) := by
  refine (Cert.Pieces.concatenate_pieces (s₁ := S1x60) (t := S1x1800) (a := 1) (ix2 0 j) ⟨rfl, by decide⟩ 60 rfl (P1 (cat T)) [extractStridedSlice S1x60 ![0, 0] (cat T) slices_S30x60_o0_0_S1x60,
    extractStridedSlice S1x60 ![1, 0] (cat T) slices_S30x60_o1_0_S1x60,
    extractStridedSlice S1x60 ![2, 0] (cat T) slices_S30x60_o2_0_S1x60,
    extractStridedSlice S1x60 ![3, 0] (cat T) slices_S30x60_o3_0_S1x60,
    extractStridedSlice S1x60 ![4, 0] (cat T) slices_S30x60_o4_0_S1x60,
    extractStridedSlice S1x60 ![5, 0] (cat T) slices_S30x60_o5_0_S1x60,
    extractStridedSlice S1x60 ![6, 0] (cat T) slices_S30x60_o6_0_S1x60,
    extractStridedSlice S1x60 ![7, 0] (cat T) slices_S30x60_o7_0_S1x60,
    extractStridedSlice S1x60 ![8, 0] (cat T) slices_S30x60_o8_0_S1x60,
    extractStridedSlice S1x60 ![9, 0] (cat T) slices_S30x60_o9_0_S1x60,
    extractStridedSlice S1x60 ![10, 0] (cat T) slices_S30x60_o10_0_S1x60,
    extractStridedSlice S1x60 ![11, 0] (cat T) slices_S30x60_o11_0_S1x60,
    extractStridedSlice S1x60 ![12, 0] (cat T) slices_S30x60_o12_0_S1x60,
    extractStridedSlice S1x60 ![13, 0] (cat T) slices_S30x60_o13_0_S1x60,
    extractStridedSlice S1x60 ![14, 0] (cat T) slices_S30x60_o14_0_S1x60,
    extractStridedSlice S1x60 ![15, 0] (cat T) slices_S30x60_o15_0_S1x60,
    extractStridedSlice S1x60 ![16, 0] (cat T) slices_S30x60_o16_0_S1x60,
    extractStridedSlice S1x60 ![17, 0] (cat T) slices_S30x60_o17_0_S1x60,
    extractStridedSlice S1x60 ![18, 0] (cat T) slices_S30x60_o18_0_S1x60,
    extractStridedSlice S1x60 ![19, 0] (cat T) slices_S30x60_o19_0_S1x60,
    extractStridedSlice S1x60 ![20, 0] (cat T) slices_S30x60_o20_0_S1x60,
    extractStridedSlice S1x60 ![21, 0] (cat T) slices_S30x60_o21_0_S1x60,
    extractStridedSlice S1x60 ![22, 0] (cat T) slices_S30x60_o22_0_S1x60,
    extractStridedSlice S1x60 ![23, 0] (cat T) slices_S30x60_o23_0_S1x60,
    extractStridedSlice S1x60 ![24, 0] (cat T) slices_S30x60_o24_0_S1x60,
    extractStridedSlice S1x60 ![25, 0] (cat T) slices_S30x60_o25_0_S1x60,
    extractStridedSlice S1x60 ![26, 0] (cat T) slices_S30x60_o26_0_S1x60,
    extractStridedSlice S1x60 ![27, 0] (cat T) slices_S30x60_o27_0_S1x60,
    extractStridedSlice S1x60 ![28, 0] (cat T) slices_S30x60_o28_0_S1x60,
    extractStridedSlice S1x60 ![29, 0] (cat T) slices_S30x60_o29_0_S1x60]
    (fun i hi r hr => ?_) concatenates_S1x60_S1x60_S1x60_S1x60_S1x60_S1x60_S1x60_S1x60_S1x60_S1x60_S1x60_S1x60_S1x60_S1x60_S1x60_S1x60_S1x60_S1x60_S1x60_S1x60_S1x60_S1x60_S1x60_S1x60_S1x60_S1x60_S1x60_S1x60_S1x60_S1x60_S1x1800_d1).trans ?_
  · match i, hi with
    | 0, _ => exact slice1 (cat T) 0 slices_S30x60_o0_0_S1x60 r
    | 1, _ => exact slice1 (cat T) 1 slices_S30x60_o1_0_S1x60 r
    | 2, _ => exact slice1 (cat T) 2 slices_S30x60_o2_0_S1x60 r
    | 3, _ => exact slice1 (cat T) 3 slices_S30x60_o3_0_S1x60 r
    | 4, _ => exact slice1 (cat T) 4 slices_S30x60_o4_0_S1x60 r
    | 5, _ => exact slice1 (cat T) 5 slices_S30x60_o5_0_S1x60 r
    | 6, _ => exact slice1 (cat T) 6 slices_S30x60_o6_0_S1x60 r
    | 7, _ => exact slice1 (cat T) 7 slices_S30x60_o7_0_S1x60 r
    | 8, _ => exact slice1 (cat T) 8 slices_S30x60_o8_0_S1x60 r
    | 9, _ => exact slice1 (cat T) 9 slices_S30x60_o9_0_S1x60 r
    | 10, _ => exact slice1 (cat T) 10 slices_S30x60_o10_0_S1x60 r
    | 11, _ => exact slice1 (cat T) 11 slices_S30x60_o11_0_S1x60 r
    | 12, _ => exact slice1 (cat T) 12 slices_S30x60_o12_0_S1x60 r
    | 13, _ => exact slice1 (cat T) 13 slices_S30x60_o13_0_S1x60 r
    | 14, _ => exact slice1 (cat T) 14 slices_S30x60_o14_0_S1x60 r
    | 15, _ => exact slice1 (cat T) 15 slices_S30x60_o15_0_S1x60 r
    | 16, _ => exact slice1 (cat T) 16 slices_S30x60_o16_0_S1x60 r
    | 17, _ => exact slice1 (cat T) 17 slices_S30x60_o17_0_S1x60 r
    | 18, _ => exact slice1 (cat T) 18 slices_S30x60_o18_0_S1x60 r
    | 19, _ => exact slice1 (cat T) 19 slices_S30x60_o19_0_S1x60 r
    | 20, _ => exact slice1 (cat T) 20 slices_S30x60_o20_0_S1x60 r
    | 21, _ => exact slice1 (cat T) 21 slices_S30x60_o21_0_S1x60 r
    | 22, _ => exact slice1 (cat T) 22 slices_S30x60_o22_0_S1x60 r
    | 23, _ => exact slice1 (cat T) 23 slices_S30x60_o23_0_S1x60 r
    | 24, _ => exact slice1 (cat T) 24 slices_S30x60_o24_0_S1x60 r
    | 25, _ => exact slice1 (cat T) 25 slices_S30x60_o25_0_S1x60 r
    | 26, _ => exact slice1 (cat T) 26 slices_S30x60_o26_0_S1x60 r
    | 27, _ => exact slice1 (cat T) 27 slices_S30x60_o27_0_S1x60 r
    | 28, _ => exact slice1 (cat T) 28 slices_S30x60_o28_0_S1x60 r
    | 29, _ => exact slice1 (cat T) 29 slices_S30x60_o29_0_S1x60 r
    | k + 30, hk => exact absurd hk (Nat.not_lt.mpr (Nat.le_add_left 30 k))
  · exact dif_pos j.isLt

/-! ## The network -/

theorem pay2_at (x : FVec Ideal S1x1800 .f32) (W : FVec Ideal S1800x1024 .f32) (b : FVec Ideal S1x1024 .f32) (j : Fin 1024) :
    k0_pay2 x W b (ix2 0 j) = max ((∑ k : Fin 1800, x (ix2 0 k) * W (ix2 k j)) + b (ix2 0 j)) 0 := by
  pointwise [k0_pay2]
theorem pay3_at (x : FVec Ideal S1x1024 .f32) (W : FVec Ideal S1024x1024 .f32) (b : FVec Ideal S1x1024 .f32) (W' : FVec Ideal S1024x1024 .f32) (b' : FVec Ideal S1x1024 .f32) (j : Fin 1024) :
    k0_pay3 x W b W' b' (ix2 0 j)
      = (∑ q : Fin 1024, max ((∑ k : Fin 1024, x (ix2 0 k) * W (ix2 k q)) + b (ix2 0 q)) 0 * W' (ix2 q j)) + b' (ix2 0 j) := by
  pointwise [k0_pay3]
theorem pay5_at (x : FVec Ideal S1x1024 .f32) (W : FVec Ideal S1024x1800 .f32) (b : FVec Ideal S1x1800 .f32) (j : Fin 1800) :
    k0_pay5 x k0_pay4 W b (ix2 0 j) = (∑ k : Fin 1024, (max (x (ix2 0 k)) 0) * W (ix2 k j)) + b (ix2 0 j) := by
  pointwise [k0_pay5, k0_pay4]

/-! ## The projections -/

theorem pay6_at (Q : FVec Ideal S5000x30 .f32) (x : FVec Ideal S5000x64 .f32) (a : Fin 30) (b : Fin 64) :
    k0_pay6 Q x (ix2 a b) = ∑ k : Fin 5000, Q (ix2 k a) * x (ix2 k b) := by
  pointwise [k0_pay6]
theorem pay7_at (Q : FVec Ideal S5000x30 .f32) (x : FVec Ideal S5000x64 .f32) (a : Fin 30) (b : Fin 64) :
    k0_pay7 Q x (ix2 a b) = ∑ k : Fin 5000, Q (ix2 k a) * x (ix2 k b) := by
  pointwise [k0_pay7]
theorem pay8_at (Q : FVec Ideal S5000x30 .f32) (x : FVec Ideal S5000x64 .f32) (a : Fin 30) (b : Fin 64) :
    k0_pay8 Q x (ix2 a b) = ∑ k : Fin 5000, Q (ix2 k a) * x (ix2 k b) := by
  pointwise [k0_pay8]
theorem pay9_at (Q : FVec Ideal S5000x30 .f32) (x : FVec Ideal S5000x64 .f32) (v : FVec Ideal S30x64 .f32) (a : Fin 30) (b : Fin 64) :
    k0_pay9 Q x v (ix2 a b) = v (ix2 a b) + ∑ k : Fin 5000, Q (ix2 k a) * x (ix2 k b) := by
  pointwise [k0_pay9]
theorem pay10_at (u v : FVec Ideal S30x64 .f32) (a : Fin 30) (b : Fin 64) :
    k0_pay10 u v (ix2 a b) = v (ix2 a b) - u (ix2 a b) := by
  pointwise [k0_pay10]
theorem cw0_at (w : FVec Ideal S2x64x128 .f32) (a : Fin 64) (b : Fin 128) : cw0 w (ix3 0 a b) = w (ix3 0 a b) := by
  pointwise [cw0]
theorem cw1_at (w : FVec Ideal S2x64x128 .f32) (a : Fin 64) (b : Fin 128) : cw1 w (ix3 0 a b) = w (ix3 1 a b) := by
  pointwise [cw1]
theorem pay13_at (Q : FVec Ideal S5000x30 .f32) (x : FVec Ideal S5000x64 .f32) (v : FVec Ideal S30x64 .f32) (w : FVec Ideal S1x64x128 .f32) (a : Fin 30) (b : Fin 128) :
    k0_pay13 Q x v w (ix2 a b) = ∑ k : Fin 64, k0_pay9 Q x v (ix2 a k) * w (ix3 0 k b) := by
  pointwise [k0_pay13, k0_pay11]
theorem pay14_at (Q : FVec Ideal S5000x30 .f32) (x : FVec Ideal S5000x64 .f32) (v : FVec Ideal S30x64 .f32) (w : FVec Ideal S1x64x128 .f32) (a : Fin 30) (b : Fin 128) :
    k0_pay14 Q x v w (ix2 a b) = ∑ k : Fin 64, k0_pay9 Q x v (ix2 a k) * w (ix3 0 k b) := by
  pointwise [k0_pay14, k0_pay12]
theorem pay15_at (u v : FVec Ideal S30x64 .f32) (w : FVec Ideal S1x64x128 .f32) (a : Fin 30) (b : Fin 128) :
    k0_pay15 u v w (ix2 a b) = ∑ k : Fin 64, k0_pay10 u v (ix2 a k) * w (ix3 0 k b) := by
  pointwise [k0_pay15, k0_pay11]
theorem pay16_at (u v : FVec Ideal S30x64 .f32) (w : FVec Ideal S1x64x128 .f32) (a : Fin 30) (b : Fin 128) :
    k0_pay16 u v w (ix2 a b) = ∑ k : Fin 64, k0_pay10 u v (ix2 a k) * w (ix3 0 k b) := by
  pointwise [k0_pay16, k0_pay12]

/-! ## The two selections -/

/-- A one-bit comparison widened and converted: one where the numbers agree, zero elsewhere. -/
theorem selected (x y : Nat) (hx : x < 2 ^ 32) (hy : y < 2 ^ 32) :
    (FloatOps.sitofp (F := Ideal) FTy.f32 (BitVec.setWidth 32 (IntOp.cmpi CmpIPredicate.eq (BitVec.ofNat 32 x) (BitVec.ofNat 32 y))) : EReal)
      = if x = y then 1 else 0 := by
  by_cases h : x = y
  · subst h
    rw [if_pos rfl, IntOp.cmpi_eq_self]
    show (((BitVec.setWidth 32 1#1).toInt : ℝ) : EReal) = 1
    rw [show (BitVec.setWidth 32 1#1).toInt = 1 by decide]; norm_num
  · have hne : BitVec.ofNat 32 x ≠ BitVec.ofNat 32 y := fun e => h (by
      have := congrArg BitVec.toNat e
      rwa [BitVec.toNat_ofNat, BitVec.toNat_ofNat, Nat.mod_eq_of_lt hx, Nat.mod_eq_of_lt hy] at this)
    have h0 : IntOp.cmpi CmpIPredicate.eq (BitVec.ofNat 32 x) (BitVec.ofNat 32 y) = 0#1 := by
      show BitVec.ofBool (BitVec.ofNat 32 x == BitVec.ofNat 32 y) = 0#1
      rw [beq_eq_false_iff_ne.mpr hne]; rfl
    rw [if_neg h, h0]
    show (((BitVec.setWidth 32 0#1).toInt : ℝ) : EReal) = 0
    rw [show (BitVec.setWidth 32 0#1).toInt = 0 by decide]; norm_num

/-- A row times a column that is one at one place: the row there. -/
theorem sum_selected (f : Fin 60 → EReal) (y : Nat) (hy : y < 60) :
    ∑ x : Fin 60, f x * (if x.val = y then (1 : EReal) else 0) = f ⟨y, hy⟩ := by
  rw [Finset.sum_eq_single ⟨y, hy⟩]
  · rw [if_pos rfl, mul_one]
  · intro b _ hb
    rw [if_neg fun e => hb (Fin.ext e), mul_zero]
  · intro h; exact absurd (Finset.mem_univ _) h

/-- The even columns. -/
theorem pay19_at (C : FVec Ideal S30x60 .f32) (k l : Fin 30) :
    k0_pay19 C k0_pay18 (ix2 k l) = C (ix2 k ⟨2 * l.val, by omega⟩) := by
  pointwise [k0_pay19, k0_pay18]
  refine Eq.trans (Finset.sum_congr rfl fun x _ => congrArg (C (ix2 k x) * ·) ?_) (sum_selected (fun x => C (ix2 k x)) (2 * l.val) (by omega))
  have e : IntOp.muli (2#32) (BitVec.ofNat 32 l.val) = BitVec.ofNat 32 (2 * l.val) := by
    simp [IntOp.muli, BitVec.ofNat_mul]
  rw [e]
  exact selected x.val (2 * l.val) (by omega) (by omega)
/-- The odd columns. -/
theorem pay20_at (C : FVec Ideal S30x60 .f32) (k l : Fin 30) :
    k0_pay20 C (iota .tc S60x30 32 [0] iota_S60x30_d0_w32) (iota .tc S60x30 32 [1] iota_S60x30_d1_w32) (ix2 k l) = C (ix2 k ⟨2 * l.val + 1, by omega⟩) := by
  pointwise [k0_pay20]
  refine Eq.trans (Finset.sum_congr rfl fun x _ => congrArg (C (ix2 k x) * ·) ?_) (sum_selected (fun x => C (ix2 k x)) (2 * l.val + 1) (by omega))
  have e : IntOp.addi (IntOp.muli (2#32) (BitVec.ofNat 32 l.val)) (1#32) = BitVec.ofNat 32 (2 * l.val + 1) := by
    simp [IntOp.muli, IntOp.addi, BitVec.ofNat_mul, BitVec.ofNat_add]
  rw [e]
  exact selected x.val (2 * l.val + 1) (by omega) (by omega)

/-! ## The filtered coefficients and the blocks of the results -/

/-- One half, as the program spells it. -/
theorem half_eq : Ideal.ofBits FTy.f32 0x3F000000#32 = ((1 / 2 : ℝ) : EReal) := by
  simp [Ideal.ofBits, Ideal.ieee, -EReal.coe_mul]; norm_num

theorem pay21_at (u0 u1 : FVec Ideal S30x128 .f32) (C : FVec Ideal S30x60 .f32) (z0 z1 z2) (a : Fin 30) (b : Fin 128) :
    k0_pay21 u0 u1 C z0 z1 z2 (ix2 a b)
      = Ideal.ofBits FTy.f32 0x3F000000#32 * ((∑ k : Fin 30, k0_pay19 C z2 (ix2 a k) * u0 (ix2 k b)) + ∑ k : Fin 30, k0_pay19 C z2 (ix2 k a) * u0 (ix2 k b))
        + Ideal.ofBits FTy.f32 0x3F000000#32 * ((∑ k : Fin 30, k0_pay20 C z0 z1 (ix2 a k) * u1 (ix2 k b)) + ∑ k : Fin 30, k0_pay20 C z0 z1 (ix2 k a) * u1 (ix2 k b)) := by
  pointwise [k0_pay21]
theorem pay22_at (u0 u1 : FVec Ideal S30x128 .f32) (C : FVec Ideal S30x60 .f32) (z0 z1 z2) (a : Fin 30) (b : Fin 128) :
    k0_pay22 u0 u1 C z0 z1 z2 (ix2 a b)
      = Ideal.ofBits FTy.f32 0x3F000000#32 * ((∑ k : Fin 30, k0_pay19 C z2 (ix2 a k) * u0 (ix2 k b)) + ∑ k : Fin 30, k0_pay19 C z2 (ix2 k a) * u0 (ix2 k b))
        + Ideal.ofBits FTy.f32 0x3F000000#32 * ((∑ k : Fin 30, k0_pay20 C z0 z1 (ix2 a k) * u1 (ix2 k b)) + ∑ k : Fin 30, k0_pay20 C z0 z1 (ix2 k a) * u1 (ix2 k b)) := by
  pointwise [k0_pay22]

theorem blockR_at (U V : FVec Ideal S30x128 .f32) (cb : FVec Ideal S1x128 .f32) (qr qi : FVec Ideal S1000x30 .f32) (a : Fin 1000) (b : Fin 128) :
    blockR U V cb qr qi (ix2 a b) = ((∑ k : Fin 30, qr (ix2 a k) * U (ix2 k b)) + (∑ k : Fin 30, qi (ix2 a k) * V (ix2 k b))) + cb (ix2 0 b) := by
  pointwise [blockR, k0_pay34]
theorem blockI_at (U V : FVec Ideal S30x128 .f32) (cb : FVec Ideal S1x128 .f32) (qr qi : FVec Ideal S1000x30 .f32) (a : Fin 1000) (b : Fin 128) :
    blockI U V cb qr qi (ix2 a b) = ((∑ k : Fin 30, qi (ix2 a k) * U (ix2 k b)) - (∑ k : Fin 30, qr (ix2 a k) * V (ix2 k b))) + cb (ix2 0 b) := by
  pointwise [blockI, k0_pay35]

end Cert.KernelIdeal.Hand

end
-- ==== Proof.KernelOut.lean ====
/-
  The two results read at an index: the five row blocks together are one formula over all five thousand rows.
-/
module

public import proofs.«01_k».proof.Proof.KernelReads

@[expose] public section

set_option maxRecDepth 16384

noncomputable section

namespace Cert.KernelIdeal.Hand

open Cert.KernelIdeal Cert.KernelIdeal.Gen
open Idealize.ShloMosaic

/-- The real result as one formula. -/
def wholeR (U V : FVec Ideal S30x128 .f32) (cb : FVec Ideal S1x128 .f32) (Qr Qi : FVec Ideal S5000x30 .f32) : FVec Ideal S5000x128 .f32 := fun y =>
  ((∑ k : Fin 30, Qr (ix2 (y 0) k) * U (ix2 k (y 1))) + (∑ k : Fin 30, Qi (ix2 (y 0) k) * V (ix2 k (y 1)))) + cb (ix2 0 (y 1))
/-- The imaginary result as one formula. -/
def wholeI (U V : FVec Ideal S30x128 .f32) (cb : FVec Ideal S1x128 .f32) (Qr Qi : FVec Ideal S5000x30 .f32) : FVec Ideal S5000x128 .f32 := fun y =>
  ((∑ k : Fin 30, Qi (ix2 (y 0) k) * U (ix2 k (y 1))) - (∑ k : Fin 30, Qr (ix2 (y 0) k) * V (ix2 k (y 1)))) + cb (ix2 0 (y 1))

/-- A block of a thousand whole rows, read at an index. -/
theorem ld_rows {n o : Nat} (ho : o + 1000 ≤ 5000) (X : FVec Ideal ⟨2, ![5000, n]⟩ .f32) (inb) (a : Fin 1000) (b : Fin n) :
    View.ld (Val := Elt Ideal) (e' := .f32) X (Rect.unit (s := ⟨2, ![5000, n]⟩) ![o, 0] ![1000, n] inb) (ix2 a b) = X (ix2 ⟨o + a.val, by omega⟩ b) := by
  refine congrArg X (funext fun i => Fin.ext ?_)
  match i with
  | 0 => show o + 1 * a.val = o + a.val; omega
  | 1 => show 0 + 1 * b.val = b.val; omega

theorem blockR_rows {o : Nat} (ho : o + 1000 ≤ 5000) (U V : FVec Ideal S30x128 .f32) (cb : FVec Ideal S1x128 .f32) (Qr Qi : FVec Ideal S5000x30 .f32) (inb inb') :
    blockR U V cb (View.ld (Val := Elt Ideal) (e' := .f32) Qr (Rect.unit (s := S5000x30) ![o, 0] S1000x30.size inb))
        (View.ld (Val := Elt Ideal) (e' := .f32) Qi (Rect.unit (s := S5000x30) ![o, 0] S1000x30.size inb))
      = View.ld (Val := Elt Ideal) (e' := .f32) (wholeR U V cb Qr Qi) (Rect.unit (s := S5000x128) ![o, 0] S1000x128.size inb') := by
  funext y
  obtain ⟨a, b, rfl⟩ : ∃ (a : Fin 1000) (b : Fin 128), y = ix2 a b := ⟨y 0, y 1, funext fun i => by match i with | 0 => rfl | 1 => rfl⟩
  rw [blockR_at]
  refine Eq.trans ?_ (ld_rows ho (wholeR U V cb Qr Qi) inb' a b).symm
  exact congrArg (· + cb (ix2 0 b)) (congrArg₂ (· + ·) (Finset.sum_congr rfl fun k _ => congrArg (· * U (ix2 k b)) (ld_rows ho Qr inb a k))
    (Finset.sum_congr rfl fun k _ => congrArg (· * V (ix2 k b)) (ld_rows ho Qi inb a k)))

theorem blockI_rows {o : Nat} (ho : o + 1000 ≤ 5000) (U V : FVec Ideal S30x128 .f32) (cb : FVec Ideal S1x128 .f32) (Qr Qi : FVec Ideal S5000x30 .f32) (inb inb') :
    blockI U V cb (View.ld (Val := Elt Ideal) (e' := .f32) Qr (Rect.unit (s := S5000x30) ![o, 0] S1000x30.size inb))
        (View.ld (Val := Elt Ideal) (e' := .f32) Qi (Rect.unit (s := S5000x30) ![o, 0] S1000x30.size inb))
      = View.ld (Val := Elt Ideal) (e' := .f32) (wholeI U V cb Qr Qi) (Rect.unit (s := S5000x128) ![o, 0] S1000x128.size inb') := by
  funext y
  obtain ⟨a, b, rfl⟩ : ∃ (a : Fin 1000) (b : Fin 128), y = ix2 a b := ⟨y 0, y 1, funext fun i => by match i with | 0 => rfl | 1 => rfl⟩
  rw [blockI_at]
  refine Eq.trans ?_ (ld_rows ho (wholeI U V cb Qr Qi) inb' a b).symm
  exact congrArg (· + cb (ix2 0 b)) (congrArg₂ (· - ·) (Finset.sum_congr rfl fun k _ => congrArg (· * U (ix2 k b)) (ld_rows ho Qi inb a k))
    (Finset.sum_congr rfl fun k _ => congrArg (· * V (ix2 k b)) (ld_rows ho Qr inb a k)))

theorem outR_eq (U V : FVec Ideal S30x128 .f32) (cb : FVec Ideal S1x128 .f32) (Qr Qi : FVec Ideal S5000x30 .f32) :
    outR U V cb Qr Qi = wholeR U V cb Qr Qi := by
  funext y
  refine canon_of_parts (F := Ideal) (e := .f32) (wholeR U V cb Qr Qi) _ y ?_ (out_cover _ _ _ _ _ _ _ _ _ _ y)
  intro p hp
  simp only [List.mem_cons, List.not_mem_nil, or_false] at hp
  rcases hp with rfl | rfl | rfl | rfl | rfl
  · exact blockR_rows (by omega) U V cb Qr Qi inb_S5000x30_S1000x30_4000_0 inb_S5000x128_S1000x128_4000_0
  · exact blockR_rows (by omega) U V cb Qr Qi inb_S5000x30_S1000x30_3000_0 inb_S5000x128_S1000x128_3000_0
  · exact blockR_rows (by omega) U V cb Qr Qi inb_S5000x30_S1000x30_2000_0 inb_S5000x128_S1000x128_2000_0
  · exact blockR_rows (by omega) U V cb Qr Qi inb_S5000x30_S1000x30_1000_0 inb_S5000x128_S1000x128_1000_0
  · exact blockR_rows (by omega) U V cb Qr Qi inb_S5000x30_S1000x30_0_0 inb_S5000x128_S1000x128_0_0

theorem outI_eq (U V : FVec Ideal S30x128 .f32) (cb : FVec Ideal S1x128 .f32) (Qr Qi : FVec Ideal S5000x30 .f32) :
    outI U V cb Qr Qi = wholeI U V cb Qr Qi := by
  funext y
  refine canon_of_parts (F := Ideal) (e := .f32) (wholeI U V cb Qr Qi) _ y ?_ (out_cover _ _ _ _ _ _ _ _ _ _ y)
  intro p hp
  simp only [List.mem_cons, List.not_mem_nil, or_false] at hp
  rcases hp with rfl | rfl | rfl | rfl | rfl
  · exact blockI_rows (by omega) U V cb Qr Qi inb_S5000x30_S1000x30_4000_0 inb_S5000x128_S1000x128_4000_0
  · exact blockI_rows (by omega) U V cb Qr Qi inb_S5000x30_S1000x30_3000_0 inb_S5000x128_S1000x128_3000_0
  · exact blockI_rows (by omega) U V cb Qr Qi inb_S5000x30_S1000x30_2000_0 inb_S5000x128_S1000x128_2000_0
  · exact blockI_rows (by omega) U V cb Qr Qi inb_S5000x30_S1000x30_1000_0 inb_S5000x128_S1000x128_1000_0
  · exact blockI_rows (by omega) U V cb Qr Qi inb_S5000x30_S1000x30_0_0 inb_S5000x128_S1000x128_0_0

end Cert.KernelIdeal.Hand
-- ==== Proof.Spectral.lean ====
/-
  The mathematics of a spectral graph convolution over the reals: applying `Q D Qᴴ` to a signal and then a weight is the
  same as projecting the signal onto the columns of `Q`, applying the weight, applying `D`, and expanding again. With it,
  the passage from extended reals to reals for sums, products and matrix products.
-/
module

public import Mathlib.Data.Matrix.Mul
public import Mathlib.Data.EReal.Operations
public import Mathlib.Tactic.Abel
public import Mathlib.Tactic.Ring

@[expose] public section

set_option maxRecDepth 16384

noncomputable section

namespace Cert.Spectral

open Matrix

/-! ## Real values among the extended reals -/

/-- An extended real that is a real number. -/
def Real' (x : EReal) : Prop := ∃ r : ℝ, x = (r : EReal)

theorem Real'.add {x y : EReal} : Real' x → Real' y → Real' (x + y) := by
  rintro ⟨r, rfl⟩ ⟨s, rfl⟩; exact ⟨r + s, (EReal.coe_add r s).symm⟩
theorem Real'.mul {x y : EReal} : Real' x → Real' y → Real' (x * y) := by
  rintro ⟨r, rfl⟩ ⟨s, rfl⟩; exact ⟨r * s, (EReal.coe_mul r s).symm⟩
theorem Real'.zero : Real' 0 := ⟨0, EReal.coe_zero.symm⟩
/-- The positive part of a real number is real. -/
theorem Real'.relu {x : EReal} (h : Real' x) : Real' (max x 0) := by
  rcases max_choice x 0 with e | e <;> rw [e]
  · exact h
  · exact Real'.zero
theorem Real'.sum {ι : Type} [Fintype ι] {f : ι → EReal} (h : ∀ i, Real' (f i)) : Real' (∑ i, f i) := by
  classical
  refine Finset.sum_induction f Real' (fun _ _ => Real'.add) Real'.zero fun i _ => h i
/-- A real number is its own real part. -/
theorem Real'.eq {x : EReal} : Real' x → x = (x.toReal : EReal) := by
  rintro ⟨r, rfl⟩; rfl
/-- A number whose absolute value is below infinity is real. -/
theorem real_of_abs_lt {x : EReal} (h : max x (-x) < ⊤) : Real' x := by
  induction x with
  | bot => simp at h
  | top => simp at h
  | coe r => exact ⟨r, rfl⟩

/-- The sum of real numbers, taken among the extended reals. -/
theorem coe_sum {ι : Type} [Fintype ι] (f : ι → ℝ) : ∑ i, ((f i : ℝ) : EReal) = ((∑ i, f i : ℝ) : EReal) := by
  classical
  refine Finset.induction_on (motive := fun s => ∑ i ∈ s, ((f i : ℝ) : EReal) = ((∑ i ∈ s, f i : ℝ) : EReal)) Finset.univ ?_ ?_
  · simp
  · intro i s hi h
    rw [Finset.sum_insert hi, Finset.sum_insert hi, h, EReal.coe_add]

/-! ## Real matrices -/

section Mats
variable {m n k : Nat}

/-- The array `f` holds the real matrix `M`. -/
def IsMat (f : Fin m → Fin n → EReal) (M : Matrix (Fin m) (Fin n) ℝ) : Prop := ∀ a b, f a b = ((M a b : ℝ) : EReal)

/-- An array of real numbers holds the matrix of them. -/
theorem isMat_of_real {f : Fin m → Fin n → EReal} (h : ∀ a b, Real' (f a b)) : IsMat f (Matrix.of fun a b => (f a b).toReal) :=
  fun a b => (h a b).eq

theorem isMat_transpose {f : Fin m → Fin n → EReal} {M : Matrix (Fin m) (Fin n) ℝ} (h : IsMat f M) : IsMat (fun a b => f b a) Mᵀ :=
  fun a b => h b a

theorem isMat_mul {f : Fin m → Fin k → EReal} {g : Fin k → Fin n → EReal} {e : Fin m → Fin n → EReal}
    {A : Matrix (Fin m) (Fin k) ℝ} {B : Matrix (Fin k) (Fin n) ℝ} (hf : IsMat f A) (hg : IsMat g B)
    (he : ∀ a b, e a b = ∑ q, f a q * g q b) : IsMat e (A * B) := by
  intro a b
  rw [he, Matrix.mul_apply, ← coe_sum]
  refine Finset.sum_congr rfl fun q _ => ?_
  rw [hf a q, hg q b, EReal.coe_mul]

theorem isMat_add {f g e : Fin m → Fin n → EReal} {A B : Matrix (Fin m) (Fin n) ℝ} (hf : IsMat f A) (hg : IsMat g B)
    (he : ∀ a b, e a b = f a b + g a b) : IsMat e (A + B) := by
  intro a b
  rw [he, hf a b, hg a b, Matrix.add_apply, EReal.coe_add]

theorem isMat_sub {f g e : Fin m → Fin n → EReal} {A B : Matrix (Fin m) (Fin n) ℝ} (hf : IsMat f A) (hg : IsMat g B)
    (he : ∀ a b, e a b = f a b - g a b) : IsMat e (A - B) := by
  intro a b
  rw [he, hf a b, hg a b, Matrix.sub_apply, EReal.coe_sub]

/-- The symmetric part of a square matrix. -/
def sym (d : Matrix (Fin k) (Fin k) ℝ) : Matrix (Fin k) (Fin k) ℝ := (1 / 2 : ℝ) • (d + dᵀ)

/-- An array that adds each entry to its mirror image and halves the sum holds the symmetric part. -/
theorem isMat_sym {f e : Fin k → Fin k → EReal} {d : Matrix (Fin k) (Fin k) ℝ} (hf : IsMat f d)
    (he : ∀ a b, e a b = (f a b + f b a) * ((1 / 2 : ℝ) : EReal)) : IsMat e (sym d) := by
  intro a b
  rw [he, hf a b, hf b a, ← EReal.coe_add, ← EReal.coe_mul, mul_comm]; rfl

/-- Half the sum of the products with a matrix and with its transpose is the product with the symmetric part. -/
theorem sym_mul (d : Matrix (Fin k) (Fin k) ℝ) (B : Matrix (Fin k) (Fin n) ℝ) :
    (1 / 2 : ℝ) • (d * B + dᵀ * B) = sym d * B := by
  rw [sym, Matrix.smul_mul, Matrix.add_mul]

/-! ## The identity of the spectral convolution -/

variable {N K C O : Nat} (Qr Qi : Matrix (Fin N) (Fin K) ℝ) (xr xi : Matrix (Fin N) (Fin C) ℝ)

/-- The real part of `Q D Qᴴ`. -/
def lapR (D : Matrix (Fin K) (Fin K) ℝ) : Matrix (Fin N) (Fin N) ℝ := Qr * D * Qrᵀ + Qi * D * Qiᵀ
/-- The imaginary part of `Q D Qᴴ`. -/
def lapI (D : Matrix (Fin K) (Fin K) ℝ) : Matrix (Fin N) (Fin N) ℝ := Qi * D * Qrᵀ - Qr * D * Qiᵀ
/-- The real part of the projection of the signal onto the columns of `Q`. -/
def prU : Matrix (Fin K) (Fin C) ℝ := Qrᵀ * xr + Qiᵀ * xi
/-- The negated imaginary part of that projection. -/
def prV : Matrix (Fin K) (Fin C) ℝ := Qiᵀ * xr - Qrᵀ * xi

theorem conv_real (D : Matrix (Fin K) (Fin K) ℝ) (W : Matrix (Fin C) (Fin O) ℝ) :
    lapR Qr Qi D * xr * W - lapI Qr Qi D * xi * W
      = Qr * (D * (prU Qr Qi xr xi * W)) + Qi * (D * (prV Qr Qi xr xi * W)) := by
  simp only [lapR, lapI, prU, prV, Matrix.add_mul, Matrix.sub_mul, Matrix.mul_add, Matrix.mul_sub, Matrix.mul_assoc]
  abel

theorem conv_imag (D : Matrix (Fin K) (Fin K) ℝ) (W : Matrix (Fin C) (Fin O) ℝ) :
    lapI Qr Qi D * xr * W + lapR Qr Qi D * xi * W
      = Qi * (D * (prU Qr Qi xr xi * W)) - Qr * (D * (prV Qr Qi xr xi * W)) := by
  simp only [lapR, lapI, prU, prV, Matrix.add_mul, Matrix.sub_mul, Matrix.mul_add, Matrix.mul_sub, Matrix.mul_assoc]
  abel

/-- The signal in the spectral domain, after two scales `D₀`, `D₁` with weights `W₀`, `W₁`. -/
def spec (D₀ D₁ : Matrix (Fin K) (Fin K) ℝ) (W₀ W₁ : Matrix (Fin C) (Fin O) ℝ) (U : Matrix (Fin K) (Fin C) ℝ) : Matrix (Fin K) (Fin O) ℝ :=
  D₀ * (U * W₀) + D₁ * (U * W₁)

theorem two_scales_real (D₀ D₁ : Matrix (Fin K) (Fin K) ℝ) (W₀ W₁ : Matrix (Fin C) (Fin O) ℝ) :
    (lapR Qr Qi D₀ * xr * W₀ - lapI Qr Qi D₀ * xi * W₀) + (lapR Qr Qi D₁ * xr * W₁ - lapI Qr Qi D₁ * xi * W₁)
      = Qr * spec D₀ D₁ W₀ W₁ (prU Qr Qi xr xi) + Qi * spec D₀ D₁ W₀ W₁ (prV Qr Qi xr xi) := by
  rw [conv_real, conv_real, spec, spec, Matrix.mul_add, Matrix.mul_add]
  abel

theorem two_scales_imag (D₀ D₁ : Matrix (Fin K) (Fin K) ℝ) (W₀ W₁ : Matrix (Fin C) (Fin O) ℝ) :
    (lapI Qr Qi D₀ * xr * W₀ + lapR Qr Qi D₀ * xi * W₀) + (lapI Qr Qi D₁ * xr * W₁ + lapR Qr Qi D₁ * xi * W₁)
      = Qi * spec D₀ D₁ W₀ W₁ (prU Qr Qi xr xi) - Qr * spec D₀ D₁ W₀ W₁ (prV Qr Qi xr xi) := by
  rw [conv_imag, conv_imag, spec, spec, Matrix.mul_add, Matrix.mul_add]
  abel

end Mats

end Cert.Spectral
-- ==== Proof.KernelMats.lean ====
/-
  The kernel's results over the reals. When its arrays hold real matrices, so do the two spectral signals it expands, and
  the two results are those of the spectral convolution plus the bias.
-/
module

public import proofs.«01_k».proof.Proof.KernelOut
public import proofs.«01_k».proof.Proof.Spectral

@[expose] public section

set_option maxRecDepth 16384

noncomputable section

namespace Cert.KernelIdeal.Hand

open Cert.KernelIdeal Cert.KernelIdeal.Gen
open Idealize.ShloMosaic
open Cert.Spectral Matrix

/-- The coefficients of scale `s` as a matrix: entry `(k, l)` is coefficient `60 k + 2 l + s`. -/
def coefAt (C : FVec Ideal S1x1800 .f32) (s : Fin 2) (k l : Fin 30) : EReal := C (ix2 0 ⟨k.val * 60 + l.val * 2 + s.val, by omega⟩)

theorem pay19_coef (C : FVec Ideal S1x1800 .f32) (k l : Fin 30) : k0_pay19 (k0_pay17 C) k0_pay18 (ix2 k l) = coefAt C 0 k l := by
  rw [pay19_at, pay17_at, coefAt]
  congr 2; apply Fin.ext; show 60 * k.val + 2 * l.val = k.val * 60 + l.val * 2 + 0; omega
theorem pay20_coef (C : FVec Ideal S1x1800 .f32) (k l : Fin 30) :
    k0_pay20 (k0_pay17 C) (iota .tc S60x30 32 [0] iota_S60x30_d0_w32) (iota .tc S60x30 32 [1] iota_S60x30_d1_w32) (ix2 k l) = coefAt C 1 k l := by
  rw [pay20_at, pay17_at, coefAt]
  congr 2; apply Fin.ext; show 60 * k.val + (2 * l.val + 1) = k.val * 60 + l.val * 2 + 1; omega

/-- The symmetrised product of one scale, halved: the product with the symmetric part. -/
theorem half_sym {d : Fin 30 → Fin 30 → EReal} {u : Fin 30 → Fin 128 → EReal} {D : Matrix (Fin 30) (Fin 30) ℝ} {M : Matrix (Fin 30) (Fin 128) ℝ}
    (hd : IsMat d D) (hu : IsMat u M) :
    IsMat (fun a b => Ideal.ofBits FTy.f32 0x3F000000#32 * ((∑ k : Fin 30, d a k * u k b) + ∑ k : Fin 30, d k a * u k b)) (sym D * M) := by
  have h := isMat_add (isMat_mul hd hu fun _ _ => rfl) (isMat_mul (isMat_transpose hd) hu fun _ _ => rfl) fun _ _ => rfl
  intro a b
  rw [← sym_mul, Matrix.smul_apply, smul_eq_mul, EReal.coe_mul, ← h a b, ← half_eq]

variable {Qr Qi : FVec Ideal S5000x30 .f32} {xr xi : FVec Ideal S5000x64 .f32} {C : FVec Ideal S1x1800 .f32} {cw : FVec Ideal S2x64x128 .f32}
  {MQr MQi : Matrix (Fin 5000) (Fin 30) ℝ} {Mxr Mxi : Matrix (Fin 5000) (Fin 64) ℝ} {D₀ D₁ : Matrix (Fin 30) (Fin 30) ℝ} {W₀ W₁ : Matrix (Fin 64) (Fin 128) ℝ}

/-- The real part of the projection. -/
theorem isMat_u (hQr : IsMat (fun a b => Qr (ix2 a b)) MQr) (hQi : IsMat (fun a b => Qi (ix2 a b)) MQi)
    (hxr : IsMat (fun a b => xr (ix2 a b)) Mxr) (hxi : IsMat (fun a b => xi (ix2 a b)) Mxi) :
    IsMat (fun a b => k0_pay9 (F := Ideal) Qi xi (k0_pay6 Qr xr) (ix2 a b)) (prU MQr MQi Mxr Mxi) :=
  isMat_add (isMat_mul (isMat_transpose hQr) hxr fun a b => pay6_at Qr xr a b) (isMat_mul (isMat_transpose hQi) hxi fun _ _ => rfl)
    fun a b => pay9_at Qi xi (k0_pay6 Qr xr) a b

/-- The negated imaginary part of the projection. -/
theorem isMat_v (hQr : IsMat (fun a b => Qr (ix2 a b)) MQr) (hQi : IsMat (fun a b => Qi (ix2 a b)) MQi)
    (hxr : IsMat (fun a b => xr (ix2 a b)) Mxr) (hxi : IsMat (fun a b => xi (ix2 a b)) Mxi) :
    IsMat (fun a b => k0_pay10 (F := Ideal) (k0_pay7 Qr xi) (k0_pay8 Qi xr) (ix2 a b)) (prV MQr MQi Mxr Mxi) :=
  isMat_sub (isMat_mul (isMat_transpose hQi) hxr fun a b => pay8_at Qi xr a b) (isMat_mul (isMat_transpose hQr) hxi fun a b => pay7_at Qr xi a b)
    fun a b => pay10_at (k0_pay7 Qr xi) (k0_pay8 Qi xr) a b

theorem isMat_cw0 (hW : IsMat (fun a b => cw (ix3 0 a b)) W₀) : IsMat (fun a b => cw0 cw (ix3 0 a b)) W₀ := fun a b => (cw0_at cw a b).trans (hW a b)
theorem isMat_cw1 (hW : IsMat (fun a b => cw (ix3 1 a b)) W₁) : IsMat (fun a b => cw1 cw (ix3 0 a b)) W₁ := fun a b => (cw1_at cw a b).trans (hW a b)

theorem isMat_pu (hQr : IsMat (fun a b => Qr (ix2 a b)) MQr) (hQi : IsMat (fun a b => Qi (ix2 a b)) MQi)
    (hxr : IsMat (fun a b => xr (ix2 a b)) Mxr) (hxi : IsMat (fun a b => xi (ix2 a b)) Mxi)
    (h0 : IsMat (coefAt C 0) D₀) (h1 : IsMat (coefAt C 1) D₁) (hW0 : IsMat (fun a b => cw (ix3 0 a b)) W₀) (hW1 : IsMat (fun a b => cw (ix3 1 a b)) W₁) :
    IsMat (fun a b => pu Qr Qi xr xi C cw (ix2 a b)) (spec (sym D₀) (sym D₁) W₀ W₁ (prU MQr MQi Mxr Mxi)) := by
  have hu := isMat_u hQr hQi hxr hxi
  refine isMat_add (half_sym (fun k l => (pay19_coef C k l).trans (h0 k l)) (isMat_mul hu (isMat_cw0 hW0) fun a b => pay13_at Qi xi (k0_pay6 Qr xr) (cw0 cw) a b))
    (half_sym (fun k l => (pay20_coef C k l).trans (h1 k l)) (isMat_mul hu (isMat_cw1 hW1) fun a b => pay14_at Qi xi (k0_pay6 Qr xr) (cw1 cw) a b))
    fun a b => pay21_at _ _ _ _ _ _ a b

theorem isMat_pv (hQr : IsMat (fun a b => Qr (ix2 a b)) MQr) (hQi : IsMat (fun a b => Qi (ix2 a b)) MQi)
    (hxr : IsMat (fun a b => xr (ix2 a b)) Mxr) (hxi : IsMat (fun a b => xi (ix2 a b)) Mxi)
    (h0 : IsMat (coefAt C 0) D₀) (h1 : IsMat (coefAt C 1) D₁) (hW0 : IsMat (fun a b => cw (ix3 0 a b)) W₀) (hW1 : IsMat (fun a b => cw (ix3 1 a b)) W₁) :
    IsMat (fun a b => pv Qr Qi xr xi C cw (ix2 a b)) (spec (sym D₀) (sym D₁) W₀ W₁ (prV MQr MQi Mxr Mxi)) := by
  have hv := isMat_v hQr hQi hxr hxi
  refine isMat_add (half_sym (fun k l => (pay19_coef C k l).trans (h0 k l)) (isMat_mul hv (isMat_cw0 hW0) fun a b => pay15_at (k0_pay7 Qr xi) (k0_pay8 Qi xr) (cw0 cw) a b))
    (half_sym (fun k l => (pay20_coef C k l).trans (h1 k l)) (isMat_mul hv (isMat_cw1 hW1) fun a b => pay16_at (k0_pay7 Qr xi) (k0_pay8 Qi xr) (cw1 cw) a b))
    fun a b => pay22_at _ _ _ _ _ _ a b

/-- The real result: the real part of the spectral convolution, plus the bias. -/
theorem outR_real (cb : FVec Ideal S1x128 .f32) (hQr : IsMat (fun a b => Qr (ix2 a b)) MQr) (hQi : IsMat (fun a b => Qi (ix2 a b)) MQi)
    (hxr : IsMat (fun a b => xr (ix2 a b)) Mxr) (hxi : IsMat (fun a b => xi (ix2 a b)) Mxi)
    (h0 : IsMat (coefAt C 0) D₀) (h1 : IsMat (coefAt C 1) D₁) (hW0 : IsMat (fun a b => cw (ix3 0 a b)) W₀) (hW1 : IsMat (fun a b => cw (ix3 1 a b)) W₁)
    (n : Fin 5000) (o : Fin 128) :
    outR (pu Qr Qi xr xi C cw) (pv Qr Qi xr xi C cw) cb Qr Qi (ix2 n o)
      = (((MQr * spec (sym D₀) (sym D₁) W₀ W₁ (prU MQr MQi Mxr Mxi) + MQi * spec (sym D₀) (sym D₁) W₀ W₁ (prV MQr MQi Mxr Mxi)) n o : ℝ) : EReal)
        + cb (ix2 0 o) := by
  rw [outR_eq]
  refine congrArg (· + cb (ix2 0 o)) ?_
  exact isMat_add (isMat_mul hQr (isMat_pu hQr hQi hxr hxi h0 h1 hW0 hW1) fun _ _ => rfl)
    (isMat_mul hQi (isMat_pv hQr hQi hxr hxi h0 h1 hW0 hW1) fun _ _ => rfl) (fun _ _ => rfl) n o

/-- The imaginary result: the imaginary part of the spectral convolution, plus the bias. -/
theorem outI_real (cb : FVec Ideal S1x128 .f32) (hQr : IsMat (fun a b => Qr (ix2 a b)) MQr) (hQi : IsMat (fun a b => Qi (ix2 a b)) MQi)
    (hxr : IsMat (fun a b => xr (ix2 a b)) Mxr) (hxi : IsMat (fun a b => xi (ix2 a b)) Mxi)
    (h0 : IsMat (coefAt C 0) D₀) (h1 : IsMat (coefAt C 1) D₁) (hW0 : IsMat (fun a b => cw (ix3 0 a b)) W₀) (hW1 : IsMat (fun a b => cw (ix3 1 a b)) W₁)
    (n : Fin 5000) (o : Fin 128) :
    outI (pu Qr Qi xr xi C cw) (pv Qr Qi xr xi C cw) cb Qr Qi (ix2 n o)
      = (((MQi * spec (sym D₀) (sym D₁) W₀ W₁ (prU MQr MQi Mxr Mxi) - MQr * spec (sym D₀) (sym D₁) W₀ W₁ (prV MQr MQi Mxr Mxi)) n o : ℝ) : EReal)
        + cb (ix2 0 o) := by
  rw [outI_eq]
  refine congrArg (· + cb (ix2 0 o)) ?_
  exact isMat_sub (isMat_mul hQi (isMat_pu hQr hQi hxr hxi h0 h1 hW0 hW1) fun _ _ => rfl)
    (isMat_mul hQr (isMat_pv hQr hQi hxr hxi h0 h1 hW0 hW1) fun _ _ => rfl) (fun _ _ => rfl) n o

end Cert.KernelIdeal.Hand
-- ==== Proof.ReferenceReads.lean ====
/-
  The reference's operations read at an index, at exact arithmetic: every matrix product as a sum, every regrouping as the
  element it moves.
-/
module

public import proofs.«01_k».proof.Proof.Gen.ReferenceIdeal.Read
public import Idealize.ShloMosaic.Lib.Pointwise

@[expose] public section

set_option maxRecDepth 16384

noncomputable section

namespace Cert.ReferenceIdeal.At

open Cert.ReferenceIdeal Cert.ReferenceIdeal.Gen Cert.ReferenceIdeal.Read
open Idealize.ShloMosaic

theorem v1_at (x2 : FVec Ideal S30x30 .f32) (k : Fin 30) (l : Fin 60) :
    (val_main_v1 (F := Ideal) x2) (ix2 k l) = if h : l.val < 30 then x2 (ix2 k ⟨l.val, h⟩) else ∑ q : Fin 30, x2 (ix2 k q) * x2 (ix2 q ⟨l.val - 30, by omega⟩) := by
  pointwise [val_main_v1, val_main_v0]
theorem v2_at (x2 : FVec Ideal S30x30 .f32) (j : Fin 1800) :
    (val_main_v2 (F := Ideal) x2) (ix1 j) = (val_main_v1 (F := Ideal) x2) (ix2 ⟨j.val / 60, by omega⟩ ⟨j.val % 60, by omega⟩) := by
  pointwise [val_main_v2]
theorem v3_at (x2 : FVec Ideal S30x30 .f32) (x5 : FVec Ideal S1800x1024 .f32) (j : Fin 1024) :
    (val_main_v3 (F := Ideal) x2 x5) (ix1 j) = ∑ k : Fin 1800, (val_main_v2 (F := Ideal) x2) (ix1 k) * x5 (ix2 k j) := by
  pointwise [val_main_v3]
theorem v5_at (x2 : FVec Ideal S30x30 .f32) (x5 : FVec Ideal S1800x1024 .f32) (x6 : FVec Ideal S1024 .f32) (j : Fin 1024) :
    (val_main_v5 (F := Ideal) x2 x5 x6) (ix1 j) = max ((val_main_v3 (F := Ideal) x2 x5) (ix1 j) + x6 (ix1 j)) 0 := by
  pointwise [val_main_v5, val_main_v4, val_main_call0_v0, val_main_call0_cst]
theorem v6_at (x2 : FVec Ideal S30x30 .f32) (x5 : FVec Ideal S1800x1024 .f32) (x6 : FVec Ideal S1024 .f32) (x7 : FVec Ideal S1024x1024 .f32) (j : Fin 1024) :
    (val_main_v6 (F := Ideal) x2 x5 x6 x7) (ix1 j) = ∑ k : Fin 1024, (val_main_v5 (F := Ideal) x2 x5 x6) (ix1 k) * x7 (ix2 k j) := by
  pointwise [val_main_v6]
theorem v8_at (x2 : FVec Ideal S30x30 .f32) (x5 : FVec Ideal S1800x1024 .f32) (x6 : FVec Ideal S1024 .f32) (x7 : FVec Ideal S1024x1024 .f32) (x8 : FVec Ideal S1024 .f32) (j : Fin 1024) :
    (val_main_v8 (F := Ideal) x2 x5 x6 x7 x8) (ix1 j) = max ((val_main_v6 (F := Ideal) x2 x5 x6 x7) (ix1 j) + x8 (ix1 j)) 0 := by
  pointwise [val_main_v8, val_main_v7, val_main_call1_v0, val_main_call1_cst]
theorem v9_at (x2 : FVec Ideal S30x30 .f32) (x5 : FVec Ideal S1800x1024 .f32) (x6 : FVec Ideal S1024 .f32) (x7 : FVec Ideal S1024x1024 .f32) (x8 : FVec Ideal S1024 .f32) (x9 : FVec Ideal S1024x1024 .f32) (j : Fin 1024) :
    (val_main_v9 (F := Ideal) x2 x5 x6 x7 x8 x9) (ix1 j) = ∑ k : Fin 1024, (val_main_v8 (F := Ideal) x2 x5 x6 x7 x8) (ix1 k) * x9 (ix2 k j) := by
  pointwise [val_main_v9]
theorem v11_at (x2 : FVec Ideal S30x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (j : Fin 1024) :
    (val_main_v11 (F := Ideal) x2 x5 x6 x7 x8 x9 x10) (ix1 j) = max ((val_main_v9 (F := Ideal) x2 x5 x6 x7 x8 x9) (ix1 j) + x10 (ix1 j)) 0 := by
  pointwise [val_main_v11, val_main_v10, val_main_call2_v0, val_main_call2_cst]
theorem v12_at (x2 : FVec Ideal S30x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (j : Fin 1800) :
    (val_main_v12 (F := Ideal) x2 x5 x6 x7 x8 x9 x10 x11) (ix1 j) = ∑ k : Fin 1024, (val_main_v11 (F := Ideal) x2 x5 x6 x7 x8 x9 x10) (ix1 k) * x11 (ix2 k j) := by
  pointwise [val_main_v12]
theorem v13_at (x2 : FVec Ideal S30x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (j : Fin 1800) :
    (val_main_v13 (F := Ideal) x2 x5 x6 x7 x8 x9 x10 x11 x12) (ix1 j) = (val_main_v12 (F := Ideal) x2 x5 x6 x7 x8 x9 x10 x11) (ix1 j) + x12 (ix1 j) := by
  pointwise [val_main_v13]
theorem v14_at (x2 : FVec Ideal S30x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (k l : Fin 30) (s : Fin 2) :
    (val_main_v14 (F := Ideal) x2 x5 x6 x7 x8 x9 x10 x11 x12) (ix3 k l s) = (val_main_v13 (F := Ideal) x2 x5 x6 x7 x8 x9 x10 x11 x12) (ix1 ⟨k.val * 60 + l.val * 2 + s.val, by omega⟩) := by
  pointwise [val_main_v14]
theorem v22_at (x2 : FVec Ideal S30x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (k l : Fin 30) :
    (val_main_v22 (F := Ideal) x2 x5 x6 x7 x8 x9 x10 x11 x12) (ix2 k l) = ((val_main_v14 (F := Ideal) x2 x5 x6 x7 x8 x9 x10 x11 x12) (ix3 k l 0) + (val_main_v14 (F := Ideal) x2 x5 x6 x7 x8 x9 x10 x11 x12) (ix3 l k 0)) * Ideal.ofBits FTy.f32 0x3F000000#32 := by
  pointwise [val_main_v22, val_main_v21, val_main_v18, val_main_v17, val_main_cst, val_main_v16, val_main_v15]
theorem v52_at (x2 : FVec Ideal S30x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (k l : Fin 30) :
    (val_main_v52 (F := Ideal) x2 x5 x6 x7 x8 x9 x10 x11 x12) (ix2 k l) = ((val_main_v14 (F := Ideal) x2 x5 x6 x7 x8 x9 x10 x11 x12) (ix3 k l 1) + (val_main_v14 (F := Ideal) x2 x5 x6 x7 x8 x9 x10 x11 x12) (ix3 l k 1)) * Ideal.ofBits FTy.f32 0x3F000000#32 := by
  pointwise [val_main_v52, val_main_v51, val_main_v18, val_main_v17, val_main_cst, val_main_v16, val_main_v15]
theorem v38_at (x13 : FVec Ideal S2x64x128 .f32) (a : Fin 64) (b : Fin 128) :
    (val_main_v38 (F := Ideal) x13) (ix2 a b) = x13 (ix3 0 a b) := by
  pointwise [val_main_v38, val_main_v37]
theorem v68_at (x13 : FVec Ideal S2x64x128 .f32) (a : Fin 64) (b : Fin 128) :
    (val_main_v68 (F := Ideal) x13) (ix2 a b) = x13 (ix3 1 a b) := by
  pointwise [val_main_v68, val_main_v67]
theorem v23_at (x2 : FVec Ideal S30x30 .f32) (x3 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 30) :
    (val_main_v23 (F := Ideal) x2 x3 x5 x6 x7 x8 x9 x10 x11 x12) (ix2 a b) = ∑ k : Fin 30, x3 (ix2 a k) * (val_main_v22 (F := Ideal) x2 x5 x6 x7 x8 x9 x10 x11 x12) (ix2 k b) := by
  pointwise [val_main_v23]
theorem v24_at (x3 : FVec Ideal S5000x30 .f32) (a : Fin 30) (b : Fin 5000) :
    (val_main_v24 (F := Ideal) x3) (ix2 a b) = x3 (ix2 b a) := by
  pointwise [val_main_v24]
theorem v25_at (x2 : FVec Ideal S30x30 .f32) (x3 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 5000) :
    (val_main_v25 (F := Ideal) x2 x3 x5 x6 x7 x8 x9 x10 x11 x12) (ix2 a b) = ∑ k : Fin 30, (val_main_v23 (F := Ideal) x2 x3 x5 x6 x7 x8 x9 x10 x11 x12) (ix2 a k) * (val_main_v24 (F := Ideal) x3) (ix2 k b) := by
  pointwise [val_main_v25]
theorem v26_at (x2 : FVec Ideal S30x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 30) :
    (val_main_v26 (F := Ideal) x2 x4 x5 x6 x7 x8 x9 x10 x11 x12) (ix2 a b) = ∑ k : Fin 30, x4 (ix2 a k) * (val_main_v22 (F := Ideal) x2 x5 x6 x7 x8 x9 x10 x11 x12) (ix2 k b) := by
  pointwise [val_main_v26]
theorem v27_at (x4 : FVec Ideal S5000x30 .f32) (a : Fin 30) (b : Fin 5000) :
    (val_main_v27 (F := Ideal) x4) (ix2 a b) = x4 (ix2 b a) := by
  pointwise [val_main_v27]
theorem v28_at (x2 : FVec Ideal S30x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 5000) :
    (val_main_v28 (F := Ideal) x2 x4 x5 x6 x7 x8 x9 x10 x11 x12) (ix2 a b) = ∑ k : Fin 30, (val_main_v26 (F := Ideal) x2 x4 x5 x6 x7 x8 x9 x10 x11 x12) (ix2 a k) * (val_main_v27 (F := Ideal) x4) (ix2 k b) := by
  pointwise [val_main_v28]
theorem v29_at (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 5000) :
    (val_main_v29 (F := Ideal) x2 x3 x4 x5 x6 x7 x8 x9 x10 x11 x12) (ix2 a b) = (val_main_v25 (F := Ideal) x2 x3 x5 x6 x7 x8 x9 x10 x11 x12) (ix2 a b) + (val_main_v28 (F := Ideal) x2 x4 x5 x6 x7 x8 x9 x10 x11 x12) (ix2 a b) := by
  pointwise [val_main_v29]
theorem v30_at (x2 : FVec Ideal S30x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 30) :
    (val_main_v30 (F := Ideal) x2 x4 x5 x6 x7 x8 x9 x10 x11 x12) (ix2 a b) = ∑ k : Fin 30, x4 (ix2 a k) * (val_main_v22 (F := Ideal) x2 x5 x6 x7 x8 x9 x10 x11 x12) (ix2 k b) := by
  pointwise [val_main_v30]
theorem v31_at (x3 : FVec Ideal S5000x30 .f32) (a : Fin 30) (b : Fin 5000) :
    (val_main_v31 (F := Ideal) x3) (ix2 a b) = x3 (ix2 b a) := by
  pointwise [val_main_v31]
theorem v32_at (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 5000) :
    (val_main_v32 (F := Ideal) x2 x3 x4 x5 x6 x7 x8 x9 x10 x11 x12) (ix2 a b) = ∑ k : Fin 30, (val_main_v30 (F := Ideal) x2 x4 x5 x6 x7 x8 x9 x10 x11 x12) (ix2 a k) * (val_main_v31 (F := Ideal) x3) (ix2 k b) := by
  pointwise [val_main_v32]
theorem v33_at (x2 : FVec Ideal S30x30 .f32) (x3 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 30) :
    (val_main_v33 (F := Ideal) x2 x3 x5 x6 x7 x8 x9 x10 x11 x12) (ix2 a b) = ∑ k : Fin 30, x3 (ix2 a k) * (val_main_v22 (F := Ideal) x2 x5 x6 x7 x8 x9 x10 x11 x12) (ix2 k b) := by
  pointwise [val_main_v33]
theorem v34_at (x4 : FVec Ideal S5000x30 .f32) (a : Fin 30) (b : Fin 5000) :
    (val_main_v34 (F := Ideal) x4) (ix2 a b) = x4 (ix2 b a) := by
  pointwise [val_main_v34]
theorem v35_at (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 5000) :
    (val_main_v35 (F := Ideal) x2 x3 x4 x5 x6 x7 x8 x9 x10 x11 x12) (ix2 a b) = ∑ k : Fin 30, (val_main_v33 (F := Ideal) x2 x3 x5 x6 x7 x8 x9 x10 x11 x12) (ix2 a k) * (val_main_v34 (F := Ideal) x4) (ix2 k b) := by
  pointwise [val_main_v35]
theorem v36_at (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 5000) :
    (val_main_v36 (F := Ideal) x2 x3 x4 x5 x6 x7 x8 x9 x10 x11 x12) (ix2 a b) = (val_main_v32 (F := Ideal) x2 x3 x4 x5 x6 x7 x8 x9 x10 x11 x12) (ix2 a b) - (val_main_v35 (F := Ideal) x2 x3 x4 x5 x6 x7 x8 x9 x10 x11 x12) (ix2 a b) := by
  pointwise [val_main_v36]
theorem v39_at (x0 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 64) :
    (val_main_v39 (F := Ideal) x0 x2 x3 x4 x5 x6 x7 x8 x9 x10 x11 x12) (ix2 a b) = ∑ k : Fin 5000, (val_main_v29 (F := Ideal) x2 x3 x4 x5 x6 x7 x8 x9 x10 x11 x12) (ix2 a k) * x0 (ix2 k b) := by
  pointwise [val_main_v39]
theorem v40_at (x0 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v40 (F := Ideal) x0 x2 x3 x4 x5 x6 x7 x8 x9 x10 x11 x12 x13) (ix2 a b) = ∑ k : Fin 64, (val_main_v39 (F := Ideal) x0 x2 x3 x4 x5 x6 x7 x8 x9 x10 x11 x12) (ix2 a k) * (val_main_v38 (F := Ideal) x13) (ix2 k b) := by
  pointwise [val_main_v40]
theorem v41_at (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 64) :
    (val_main_v41 (F := Ideal) x1 x2 x3 x4 x5 x6 x7 x8 x9 x10 x11 x12) (ix2 a b) = ∑ k : Fin 5000, (val_main_v36 (F := Ideal) x2 x3 x4 x5 x6 x7 x8 x9 x10 x11 x12) (ix2 a k) * x1 (ix2 k b) := by
  pointwise [val_main_v41]
theorem v42_at (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v42 (F := Ideal) x1 x2 x3 x4 x5 x6 x7 x8 x9 x10 x11 x12 x13) (ix2 a b) = ∑ k : Fin 64, (val_main_v41 (F := Ideal) x1 x2 x3 x4 x5 x6 x7 x8 x9 x10 x11 x12) (ix2 a k) * (val_main_v38 (F := Ideal) x13) (ix2 k b) := by
  pointwise [val_main_v42]
theorem v43_at (x0 : FVec Ideal S5000x64 .f32) (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v43 (F := Ideal) x0 x1 x2 x3 x4 x5 x6 x7 x8 x9 x10 x11 x12 x13) (ix2 a b) = (val_main_v40 (F := Ideal) x0 x2 x3 x4 x5 x6 x7 x8 x9 x10 x11 x12 x13) (ix2 a b) - (val_main_v42 (F := Ideal) x1 x2 x3 x4 x5 x6 x7 x8 x9 x10 x11 x12 x13) (ix2 a b) := by
  pointwise [val_main_v43]
theorem v44_at (x0 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 64) :
    (val_main_v44 (F := Ideal) x0 x2 x3 x4 x5 x6 x7 x8 x9 x10 x11 x12) (ix2 a b) = ∑ k : Fin 5000, (val_main_v36 (F := Ideal) x2 x3 x4 x5 x6 x7 x8 x9 x10 x11 x12) (ix2 a k) * x0 (ix2 k b) := by
  pointwise [val_main_v44]
theorem v45_at (x0 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v45 (F := Ideal) x0 x2 x3 x4 x5 x6 x7 x8 x9 x10 x11 x12 x13) (ix2 a b) = ∑ k : Fin 64, (val_main_v44 (F := Ideal) x0 x2 x3 x4 x5 x6 x7 x8 x9 x10 x11 x12) (ix2 a k) * (val_main_v38 (F := Ideal) x13) (ix2 k b) := by
  pointwise [val_main_v45]
theorem v46_at (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 64) :
    (val_main_v46 (F := Ideal) x1 x2 x3 x4 x5 x6 x7 x8 x9 x10 x11 x12) (ix2 a b) = ∑ k : Fin 5000, (val_main_v29 (F := Ideal) x2 x3 x4 x5 x6 x7 x8 x9 x10 x11 x12) (ix2 a k) * x1 (ix2 k b) := by
  pointwise [val_main_v46]
theorem v47_at (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v47 (F := Ideal) x1 x2 x3 x4 x5 x6 x7 x8 x9 x10 x11 x12 x13) (ix2 a b) = ∑ k : Fin 64, (val_main_v46 (F := Ideal) x1 x2 x3 x4 x5 x6 x7 x8 x9 x10 x11 x12) (ix2 a k) * (val_main_v38 (F := Ideal) x13) (ix2 k b) := by
  pointwise [val_main_v47]
theorem v48_at (x0 : FVec Ideal S5000x64 .f32) (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v48 (F := Ideal) x0 x1 x2 x3 x4 x5 x6 x7 x8 x9 x10 x11 x12 x13) (ix2 a b) = (val_main_v45 (F := Ideal) x0 x2 x3 x4 x5 x6 x7 x8 x9 x10 x11 x12 x13) (ix2 a b) + (val_main_v47 (F := Ideal) x1 x2 x3 x4 x5 x6 x7 x8 x9 x10 x11 x12 x13) (ix2 a b) := by
  pointwise [val_main_v48]
theorem v49_at (x0 : FVec Ideal S5000x64 .f32) (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v49 (F := Ideal) x0 x1 x2 x3 x4 x5 x6 x7 x8 x9 x10 x11 x12 x13) (ix2 a b) = (val_main_v43 (F := Ideal) x0 x1 x2 x3 x4 x5 x6 x7 x8 x9 x10 x11 x12 x13) (ix2 a b) := by
  refine Eq.trans (b := 0 + (val_main_v43 (F := Ideal) x0 x1 x2 x3 x4 x5 x6 x7 x8 x9 x10 x11 x12 x13) (ix2 a b)) ?_ (zero_add _)
  pointwise [val_main_v49, val_main_v19, val_main_cst_0]
theorem v50_at (x0 : FVec Ideal S5000x64 .f32) (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v50 (F := Ideal) x0 x1 x2 x3 x4 x5 x6 x7 x8 x9 x10 x11 x12 x13) (ix2 a b) = (val_main_v48 (F := Ideal) x0 x1 x2 x3 x4 x5 x6 x7 x8 x9 x10 x11 x12 x13) (ix2 a b) := by
  refine Eq.trans (b := 0 + (val_main_v48 (F := Ideal) x0 x1 x2 x3 x4 x5 x6 x7 x8 x9 x10 x11 x12 x13) (ix2 a b)) ?_ (zero_add _)
  pointwise [val_main_v50, val_main_v20, val_main_cst_1]
theorem v53_at (x2 : FVec Ideal S30x30 .f32) (x3 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 30) :
    (val_main_v53 (F := Ideal) x2 x3 x5 x6 x7 x8 x9 x10 x11 x12) (ix2 a b) = ∑ k : Fin 30, x3 (ix2 a k) * (val_main_v52 (F := Ideal) x2 x5 x6 x7 x8 x9 x10 x11 x12) (ix2 k b) := by
  pointwise [val_main_v53]
theorem v54_at (x3 : FVec Ideal S5000x30 .f32) (a : Fin 30) (b : Fin 5000) :
    (val_main_v54 (F := Ideal) x3) (ix2 a b) = x3 (ix2 b a) := by
  pointwise [val_main_v54]
theorem v55_at (x2 : FVec Ideal S30x30 .f32) (x3 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 5000) :
    (val_main_v55 (F := Ideal) x2 x3 x5 x6 x7 x8 x9 x10 x11 x12) (ix2 a b) = ∑ k : Fin 30, (val_main_v53 (F := Ideal) x2 x3 x5 x6 x7 x8 x9 x10 x11 x12) (ix2 a k) * (val_main_v54 (F := Ideal) x3) (ix2 k b) := by
  pointwise [val_main_v55]
theorem v56_at (x2 : FVec Ideal S30x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 30) :
    (val_main_v56 (F := Ideal) x2 x4 x5 x6 x7 x8 x9 x10 x11 x12) (ix2 a b) = ∑ k : Fin 30, x4 (ix2 a k) * (val_main_v52 (F := Ideal) x2 x5 x6 x7 x8 x9 x10 x11 x12) (ix2 k b) := by
  pointwise [val_main_v56]
theorem v57_at (x4 : FVec Ideal S5000x30 .f32) (a : Fin 30) (b : Fin 5000) :
    (val_main_v57 (F := Ideal) x4) (ix2 a b) = x4 (ix2 b a) := by
  pointwise [val_main_v57]
theorem v58_at (x2 : FVec Ideal S30x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 5000) :
    (val_main_v58 (F := Ideal) x2 x4 x5 x6 x7 x8 x9 x10 x11 x12) (ix2 a b) = ∑ k : Fin 30, (val_main_v56 (F := Ideal) x2 x4 x5 x6 x7 x8 x9 x10 x11 x12) (ix2 a k) * (val_main_v57 (F := Ideal) x4) (ix2 k b) := by
  pointwise [val_main_v58]
theorem v59_at (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 5000) :
    (val_main_v59 (F := Ideal) x2 x3 x4 x5 x6 x7 x8 x9 x10 x11 x12) (ix2 a b) = (val_main_v55 (F := Ideal) x2 x3 x5 x6 x7 x8 x9 x10 x11 x12) (ix2 a b) + (val_main_v58 (F := Ideal) x2 x4 x5 x6 x7 x8 x9 x10 x11 x12) (ix2 a b) := by
  pointwise [val_main_v59]
theorem v60_at (x2 : FVec Ideal S30x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 30) :
    (val_main_v60 (F := Ideal) x2 x4 x5 x6 x7 x8 x9 x10 x11 x12) (ix2 a b) = ∑ k : Fin 30, x4 (ix2 a k) * (val_main_v52 (F := Ideal) x2 x5 x6 x7 x8 x9 x10 x11 x12) (ix2 k b) := by
  pointwise [val_main_v60]
theorem v61_at (x3 : FVec Ideal S5000x30 .f32) (a : Fin 30) (b : Fin 5000) :
    (val_main_v61 (F := Ideal) x3) (ix2 a b) = x3 (ix2 b a) := by
  pointwise [val_main_v61]
theorem v62_at (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 5000) :
    (val_main_v62 (F := Ideal) x2 x3 x4 x5 x6 x7 x8 x9 x10 x11 x12) (ix2 a b) = ∑ k : Fin 30, (val_main_v60 (F := Ideal) x2 x4 x5 x6 x7 x8 x9 x10 x11 x12) (ix2 a k) * (val_main_v61 (F := Ideal) x3) (ix2 k b) := by
  pointwise [val_main_v62]
theorem v63_at (x2 : FVec Ideal S30x30 .f32) (x3 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 30) :
    (val_main_v63 (F := Ideal) x2 x3 x5 x6 x7 x8 x9 x10 x11 x12) (ix2 a b) = ∑ k : Fin 30, x3 (ix2 a k) * (val_main_v52 (F := Ideal) x2 x5 x6 x7 x8 x9 x10 x11 x12) (ix2 k b) := by
  pointwise [val_main_v63]
theorem v64_at (x4 : FVec Ideal S5000x30 .f32) (a : Fin 30) (b : Fin 5000) :
    (val_main_v64 (F := Ideal) x4) (ix2 a b) = x4 (ix2 b a) := by
  pointwise [val_main_v64]
theorem v65_at (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 5000) :
    (val_main_v65 (F := Ideal) x2 x3 x4 x5 x6 x7 x8 x9 x10 x11 x12) (ix2 a b) = ∑ k : Fin 30, (val_main_v63 (F := Ideal) x2 x3 x5 x6 x7 x8 x9 x10 x11 x12) (ix2 a k) * (val_main_v64 (F := Ideal) x4) (ix2 k b) := by
  pointwise [val_main_v65]
theorem v66_at (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 5000) :
    (val_main_v66 (F := Ideal) x2 x3 x4 x5 x6 x7 x8 x9 x10 x11 x12) (ix2 a b) = (val_main_v62 (F := Ideal) x2 x3 x4 x5 x6 x7 x8 x9 x10 x11 x12) (ix2 a b) - (val_main_v65 (F := Ideal) x2 x3 x4 x5 x6 x7 x8 x9 x10 x11 x12) (ix2 a b) := by
  pointwise [val_main_v66]
theorem v69_at (x0 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 64) :
    (val_main_v69 (F := Ideal) x0 x2 x3 x4 x5 x6 x7 x8 x9 x10 x11 x12) (ix2 a b) = ∑ k : Fin 5000, (val_main_v59 (F := Ideal) x2 x3 x4 x5 x6 x7 x8 x9 x10 x11 x12) (ix2 a k) * x0 (ix2 k b) := by
  pointwise [val_main_v69]
theorem v70_at (x0 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v70 (F := Ideal) x0 x2 x3 x4 x5 x6 x7 x8 x9 x10 x11 x12 x13) (ix2 a b) = ∑ k : Fin 64, (val_main_v69 (F := Ideal) x0 x2 x3 x4 x5 x6 x7 x8 x9 x10 x11 x12) (ix2 a k) * (val_main_v68 (F := Ideal) x13) (ix2 k b) := by
  pointwise [val_main_v70]
theorem v71_at (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 64) :
    (val_main_v71 (F := Ideal) x1 x2 x3 x4 x5 x6 x7 x8 x9 x10 x11 x12) (ix2 a b) = ∑ k : Fin 5000, (val_main_v66 (F := Ideal) x2 x3 x4 x5 x6 x7 x8 x9 x10 x11 x12) (ix2 a k) * x1 (ix2 k b) := by
  pointwise [val_main_v71]
theorem v72_at (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v72 (F := Ideal) x1 x2 x3 x4 x5 x6 x7 x8 x9 x10 x11 x12 x13) (ix2 a b) = ∑ k : Fin 64, (val_main_v71 (F := Ideal) x1 x2 x3 x4 x5 x6 x7 x8 x9 x10 x11 x12) (ix2 a k) * (val_main_v68 (F := Ideal) x13) (ix2 k b) := by
  pointwise [val_main_v72]
theorem v73_at (x0 : FVec Ideal S5000x64 .f32) (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v73 (F := Ideal) x0 x1 x2 x3 x4 x5 x6 x7 x8 x9 x10 x11 x12 x13) (ix2 a b) = (val_main_v70 (F := Ideal) x0 x2 x3 x4 x5 x6 x7 x8 x9 x10 x11 x12 x13) (ix2 a b) - (val_main_v72 (F := Ideal) x1 x2 x3 x4 x5 x6 x7 x8 x9 x10 x11 x12 x13) (ix2 a b) := by
  pointwise [val_main_v73]
theorem v74_at (x0 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 64) :
    (val_main_v74 (F := Ideal) x0 x2 x3 x4 x5 x6 x7 x8 x9 x10 x11 x12) (ix2 a b) = ∑ k : Fin 5000, (val_main_v66 (F := Ideal) x2 x3 x4 x5 x6 x7 x8 x9 x10 x11 x12) (ix2 a k) * x0 (ix2 k b) := by
  pointwise [val_main_v74]
theorem v75_at (x0 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v75 (F := Ideal) x0 x2 x3 x4 x5 x6 x7 x8 x9 x10 x11 x12 x13) (ix2 a b) = ∑ k : Fin 64, (val_main_v74 (F := Ideal) x0 x2 x3 x4 x5 x6 x7 x8 x9 x10 x11 x12) (ix2 a k) * (val_main_v68 (F := Ideal) x13) (ix2 k b) := by
  pointwise [val_main_v75]
theorem v76_at (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (a : Fin 5000) (b : Fin 64) :
    (val_main_v76 (F := Ideal) x1 x2 x3 x4 x5 x6 x7 x8 x9 x10 x11 x12) (ix2 a b) = ∑ k : Fin 5000, (val_main_v59 (F := Ideal) x2 x3 x4 x5 x6 x7 x8 x9 x10 x11 x12) (ix2 a k) * x1 (ix2 k b) := by
  pointwise [val_main_v76]
theorem v77_at (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v77 (F := Ideal) x1 x2 x3 x4 x5 x6 x7 x8 x9 x10 x11 x12 x13) (ix2 a b) = ∑ k : Fin 64, (val_main_v76 (F := Ideal) x1 x2 x3 x4 x5 x6 x7 x8 x9 x10 x11 x12) (ix2 a k) * (val_main_v68 (F := Ideal) x13) (ix2 k b) := by
  pointwise [val_main_v77]
theorem v78_at (x0 : FVec Ideal S5000x64 .f32) (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v78 (F := Ideal) x0 x1 x2 x3 x4 x5 x6 x7 x8 x9 x10 x11 x12 x13) (ix2 a b) = (val_main_v75 (F := Ideal) x0 x2 x3 x4 x5 x6 x7 x8 x9 x10 x11 x12 x13) (ix2 a b) + (val_main_v77 (F := Ideal) x1 x2 x3 x4 x5 x6 x7 x8 x9 x10 x11 x12 x13) (ix2 a b) := by
  pointwise [val_main_v78]
theorem v79_at (x0 : FVec Ideal S5000x64 .f32) (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v79 (F := Ideal) x0 x1 x2 x3 x4 x5 x6 x7 x8 x9 x10 x11 x12 x13) (ix2 a b) = (val_main_v49 (F := Ideal) x0 x1 x2 x3 x4 x5 x6 x7 x8 x9 x10 x11 x12 x13) (ix2 a b) + (val_main_v73 (F := Ideal) x0 x1 x2 x3 x4 x5 x6 x7 x8 x9 x10 x11 x12 x13) (ix2 a b) := by
  pointwise [val_main_v79]
theorem v80_at (x0 : FVec Ideal S5000x64 .f32) (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (a : Fin 5000) (b : Fin 128) :
    (val_main_v80 (F := Ideal) x0 x1 x2 x3 x4 x5 x6 x7 x8 x9 x10 x11 x12 x13) (ix2 a b) = (val_main_v50 (F := Ideal) x0 x1 x2 x3 x4 x5 x6 x7 x8 x9 x10 x11 x12 x13) (ix2 a b) + (val_main_v78 (F := Ideal) x0 x1 x2 x3 x4 x5 x6 x7 x8 x9 x10 x11 x12 x13) (ix2 a b) := by
  pointwise [val_main_v80]
theorem v82_at (x0 : FVec Ideal S5000x64 .f32) (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (x14 : FVec Ideal S1x128 .f32) (a : Fin 5000) (b : Fin 128) :
    (val_main_v82 (F := Ideal) x0 x1 x2 x3 x4 x5 x6 x7 x8 x9 x10 x11 x12 x13 x14) (ix2 a b) = (val_main_v79 (F := Ideal) x0 x1 x2 x3 x4 x5 x6 x7 x8 x9 x10 x11 x12 x13) (ix2 a b) + x14 (ix2 0 b) := by
  pointwise [val_main_v82, val_main_v81]
theorem v84_at (x0 : FVec Ideal S5000x64 .f32) (x1 : FVec Ideal S5000x64 .f32) (x2 : FVec Ideal S30x30 .f32) (x3 : FVec Ideal S5000x30 .f32) (x4 : FVec Ideal S5000x30 .f32) (x5 : FVec Ideal S1800x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1800 .f32) (x12 : FVec Ideal S1800 .f32) (x13 : FVec Ideal S2x64x128 .f32) (x14 : FVec Ideal S1x128 .f32) (a : Fin 5000) (b : Fin 128) :
    (val_main_v84 (F := Ideal) x0 x1 x2 x3 x4 x5 x6 x7 x8 x9 x10 x11 x12 x13 x14) (ix2 a b) = (val_main_v80 (F := Ideal) x0 x1 x2 x3 x4 x5 x6 x7 x8 x9 x10 x11 x12 x13) (ix2 a b) + x14 (ix2 0 b) := by
  pointwise [val_main_v84, val_main_v83]

end Cert.ReferenceIdeal.At
-- ==== Proof.ReferenceMats.lean ====
/-
  The reference's results over the reals. When its arrays hold real matrices, every intermediate matrix of the reference is
  the real matrix of the same formula.
-/
module

public import proofs.«01_k».proof.Proof.ReferenceReads
public import proofs.«01_k».proof.Proof.Spectral

@[expose] public section

set_option maxRecDepth 16384

noncomputable section

namespace Cert.ReferenceIdeal.At

open Cert.ReferenceIdeal Cert.ReferenceIdeal.Gen Cert.ReferenceIdeal.Read
open Idealize.ShloMosaic
open Cert.Spectral Matrix

/-- Where the coefficient of scale `s` at `(k, l)` stands in the row of 1800. -/
def slot (s : Fin 2) (k l : Fin 30) : Fin 1800 := ⟨k.val * 60 + l.val * 2 + s.val, by omega⟩

/-- The binary32 word of one half. -/
theorem half_eq : Ideal.ofBits FTy.f32 0x3F000000#32 = ((1 / 2 : ℝ) : EReal) := by
  simp [Ideal.ofBits, Ideal.ieee, -EReal.coe_mul]; norm_num

variable {x0 : FVec Ideal S5000x64 .f32} {x1 : FVec Ideal S5000x64 .f32} {x2 : FVec Ideal S30x30 .f32} {x3 : FVec Ideal S5000x30 .f32} {x4 : FVec Ideal S5000x30 .f32} {x5 : FVec Ideal S1800x1024 .f32} {x6 : FVec Ideal S1024 .f32} {x7 : FVec Ideal S1024x1024 .f32} {x8 : FVec Ideal S1024 .f32} {x9 : FVec Ideal S1024x1024 .f32} {x10 : FVec Ideal S1024 .f32} {x11 : FVec Ideal S1024x1800 .f32} {x12 : FVec Ideal S1800 .f32} {x13 : FVec Ideal S2x64x128 .f32}
  {MQr MQi : Matrix (Fin 5000) (Fin 30) ℝ} {Mxr Mxi : Matrix (Fin 5000) (Fin 64) ℝ} {D₀ D₁ : Matrix (Fin 30) (Fin 30) ℝ} {W₀ W₁ : Matrix (Fin 64) (Fin 128) ℝ}

theorem mat_v22 (h0 : IsMat (fun k l => val_main_v13 (F := Ideal) x2 x5 x6 x7 x8 x9 x10 x11 x12 (ix1 (slot 0 k l))) D₀) :
    IsMat (fun a b => val_main_v22 (F := Ideal) x2 x5 x6 x7 x8 x9 x10 x11 x12 (ix2 a b)) (sym D₀) :=
  isMat_sym h0 fun a b => by
    rw [v22_at, v14_at, v14_at, half_eq]; rfl
theorem mat_v52 (h1 : IsMat (fun k l => val_main_v13 (F := Ideal) x2 x5 x6 x7 x8 x9 x10 x11 x12 (ix1 (slot 1 k l))) D₁) :
    IsMat (fun a b => val_main_v52 (F := Ideal) x2 x5 x6 x7 x8 x9 x10 x11 x12 (ix2 a b)) (sym D₁) :=
  isMat_sym h1 fun a b => by
    rw [v52_at, v14_at, v14_at, half_eq]; rfl
theorem mat_v38 (hW0 : IsMat (fun a b => x13 (ix3 0 a b)) W₀) :
    IsMat (fun a b => val_main_v38 (F := Ideal) x13 (ix2 a b)) (W₀) :=
  fun a b => (v38_at x13 a b).trans (hW0 a b)
theorem mat_v68 (hW1 : IsMat (fun a b => x13 (ix3 1 a b)) W₁) :
    IsMat (fun a b => val_main_v68 (F := Ideal) x13 (ix2 a b)) (W₁) :=
  fun a b => (v68_at x13 a b).trans (hW1 a b)
theorem mat_v23 (hQr : IsMat (fun a b => x3 (ix2 a b)) MQr) (h0 : IsMat (fun k l => val_main_v13 (F := Ideal) x2 x5 x6 x7 x8 x9 x10 x11 x12 (ix1 (slot 0 k l))) D₀) :
    IsMat (fun a b => val_main_v23 (F := Ideal) x2 x3 x5 x6 x7 x8 x9 x10 x11 x12 (ix2 a b)) (MQr * (sym D₀)) :=
  isMat_mul hQr (mat_v22 h0) (fun a b => v23_at x2 x3 x5 x6 x7 x8 x9 x10 x11 x12 a b)
theorem mat_v24 (hQr : IsMat (fun a b => x3 (ix2 a b)) MQr) :
    IsMat (fun a b => val_main_v24 (F := Ideal) x3 (ix2 a b)) (MQrᵀ) :=
  fun a b => (v24_at x3 a b).trans (hQr b a)
theorem mat_v25 (hQr : IsMat (fun a b => x3 (ix2 a b)) MQr) (h0 : IsMat (fun k l => val_main_v13 (F := Ideal) x2 x5 x6 x7 x8 x9 x10 x11 x12 (ix1 (slot 0 k l))) D₀) :
    IsMat (fun a b => val_main_v25 (F := Ideal) x2 x3 x5 x6 x7 x8 x9 x10 x11 x12 (ix2 a b)) ((MQr * (sym D₀)) * MQrᵀ) :=
  isMat_mul (mat_v23 hQr h0) (mat_v24 hQr) (fun a b => v25_at x2 x3 x5 x6 x7 x8 x9 x10 x11 x12 a b)
theorem mat_v26 (hQi : IsMat (fun a b => x4 (ix2 a b)) MQi) (h0 : IsMat (fun k l => val_main_v13 (F := Ideal) x2 x5 x6 x7 x8 x9 x10 x11 x12 (ix1 (slot 0 k l))) D₀) :
    IsMat (fun a b => val_main_v26 (F := Ideal) x2 x4 x5 x6 x7 x8 x9 x10 x11 x12 (ix2 a b)) (MQi * (sym D₀)) :=
  isMat_mul hQi (mat_v22 h0) (fun a b => v26_at x2 x4 x5 x6 x7 x8 x9 x10 x11 x12 a b)
theorem mat_v27 (hQi : IsMat (fun a b => x4 (ix2 a b)) MQi) :
    IsMat (fun a b => val_main_v27 (F := Ideal) x4 (ix2 a b)) (MQiᵀ) :=
  fun a b => (v27_at x4 a b).trans (hQi b a)
theorem mat_v28 (hQi : IsMat (fun a b => x4 (ix2 a b)) MQi) (h0 : IsMat (fun k l => val_main_v13 (F := Ideal) x2 x5 x6 x7 x8 x9 x10 x11 x12 (ix1 (slot 0 k l))) D₀) :
    IsMat (fun a b => val_main_v28 (F := Ideal) x2 x4 x5 x6 x7 x8 x9 x10 x11 x12 (ix2 a b)) ((MQi * (sym D₀)) * MQiᵀ) :=
  isMat_mul (mat_v26 hQi h0) (mat_v27 hQi) (fun a b => v28_at x2 x4 x5 x6 x7 x8 x9 x10 x11 x12 a b)
theorem mat_v29 (hQr : IsMat (fun a b => x3 (ix2 a b)) MQr) (hQi : IsMat (fun a b => x4 (ix2 a b)) MQi) (h0 : IsMat (fun k l => val_main_v13 (F := Ideal) x2 x5 x6 x7 x8 x9 x10 x11 x12 (ix1 (slot 0 k l))) D₀) :
    IsMat (fun a b => val_main_v29 (F := Ideal) x2 x3 x4 x5 x6 x7 x8 x9 x10 x11 x12 (ix2 a b)) (lapR MQr MQi (sym D₀)) :=
  isMat_add (mat_v25 hQr h0) (mat_v28 hQi h0) (fun a b => v29_at x2 x3 x4 x5 x6 x7 x8 x9 x10 x11 x12 a b)
theorem mat_v30 (hQi : IsMat (fun a b => x4 (ix2 a b)) MQi) (h0 : IsMat (fun k l => val_main_v13 (F := Ideal) x2 x5 x6 x7 x8 x9 x10 x11 x12 (ix1 (slot 0 k l))) D₀) :
    IsMat (fun a b => val_main_v30 (F := Ideal) x2 x4 x5 x6 x7 x8 x9 x10 x11 x12 (ix2 a b)) (MQi * (sym D₀)) :=
  isMat_mul hQi (mat_v22 h0) (fun a b => v30_at x2 x4 x5 x6 x7 x8 x9 x10 x11 x12 a b)
theorem mat_v31 (hQr : IsMat (fun a b => x3 (ix2 a b)) MQr) :
    IsMat (fun a b => val_main_v31 (F := Ideal) x3 (ix2 a b)) (MQrᵀ) :=
  fun a b => (v31_at x3 a b).trans (hQr b a)
theorem mat_v32 (hQr : IsMat (fun a b => x3 (ix2 a b)) MQr) (hQi : IsMat (fun a b => x4 (ix2 a b)) MQi) (h0 : IsMat (fun k l => val_main_v13 (F := Ideal) x2 x5 x6 x7 x8 x9 x10 x11 x12 (ix1 (slot 0 k l))) D₀) :
    IsMat (fun a b => val_main_v32 (F := Ideal) x2 x3 x4 x5 x6 x7 x8 x9 x10 x11 x12 (ix2 a b)) ((MQi * (sym D₀)) * MQrᵀ) :=
  isMat_mul (mat_v30 hQi h0) (mat_v31 hQr) (fun a b => v32_at x2 x3 x4 x5 x6 x7 x8 x9 x10 x11 x12 a b)
theorem mat_v33 (hQr : IsMat (fun a b => x3 (ix2 a b)) MQr) (h0 : IsMat (fun k l => val_main_v13 (F := Ideal) x2 x5 x6 x7 x8 x9 x10 x11 x12 (ix1 (slot 0 k l))) D₀) :
    IsMat (fun a b => val_main_v33 (F := Ideal) x2 x3 x5 x6 x7 x8 x9 x10 x11 x12 (ix2 a b)) (MQr * (sym D₀)) :=
  isMat_mul hQr (mat_v22 h0) (fun a b => v33_at x2 x3 x5 x6 x7 x8 x9 x10 x11 x12 a b)
theorem mat_v34 (hQi : IsMat (fun a b => x4 (ix2 a b)) MQi) :
    IsMat (fun a b => val_main_v34 (F := Ideal) x4 (ix2 a b)) (MQiᵀ) :=
  fun a b => (v34_at x4 a b).trans (hQi b a)
theorem mat_v35 (hQr : IsMat (fun a b => x3 (ix2 a b)) MQr) (hQi : IsMat (fun a b => x4 (ix2 a b)) MQi) (h0 : IsMat (fun k l => val_main_v13 (F := Ideal) x2 x5 x6 x7 x8 x9 x10 x11 x12 (ix1 (slot 0 k l))) D₀) :
    IsMat (fun a b => val_main_v35 (F := Ideal) x2 x3 x4 x5 x6 x7 x8 x9 x10 x11 x12 (ix2 a b)) ((MQr * (sym D₀)) * MQiᵀ) :=
  isMat_mul (mat_v33 hQr h0) (mat_v34 hQi) (fun a b => v35_at x2 x3 x4 x5 x6 x7 x8 x9 x10 x11 x12 a b)
theorem mat_v36 (hQr : IsMat (fun a b => x3 (ix2 a b)) MQr) (hQi : IsMat (fun a b => x4 (ix2 a b)) MQi) (h0 : IsMat (fun k l => val_main_v13 (F := Ideal) x2 x5 x6 x7 x8 x9 x10 x11 x12 (ix1 (slot 0 k l))) D₀) :
    IsMat (fun a b => val_main_v36 (F := Ideal) x2 x3 x4 x5 x6 x7 x8 x9 x10 x11 x12 (ix2 a b)) (lapI MQr MQi (sym D₀)) :=
  isMat_sub (mat_v32 hQr hQi h0) (mat_v35 hQr hQi h0) (fun a b => v36_at x2 x3 x4 x5 x6 x7 x8 x9 x10 x11 x12 a b)
theorem mat_v39 (hQr : IsMat (fun a b => x3 (ix2 a b)) MQr) (hQi : IsMat (fun a b => x4 (ix2 a b)) MQi) (hxr : IsMat (fun a b => x0 (ix2 a b)) Mxr) (h0 : IsMat (fun k l => val_main_v13 (F := Ideal) x2 x5 x6 x7 x8 x9 x10 x11 x12 (ix1 (slot 0 k l))) D₀) :
    IsMat (fun a b => val_main_v39 (F := Ideal) x0 x2 x3 x4 x5 x6 x7 x8 x9 x10 x11 x12 (ix2 a b)) ((lapR MQr MQi (sym D₀)) * Mxr) :=
  isMat_mul (mat_v29 hQr hQi h0) hxr (fun a b => v39_at x0 x2 x3 x4 x5 x6 x7 x8 x9 x10 x11 x12 a b)
theorem mat_v40 (hQr : IsMat (fun a b => x3 (ix2 a b)) MQr) (hQi : IsMat (fun a b => x4 (ix2 a b)) MQi) (hxr : IsMat (fun a b => x0 (ix2 a b)) Mxr) (h0 : IsMat (fun k l => val_main_v13 (F := Ideal) x2 x5 x6 x7 x8 x9 x10 x11 x12 (ix1 (slot 0 k l))) D₀) (hW0 : IsMat (fun a b => x13 (ix3 0 a b)) W₀) :
    IsMat (fun a b => val_main_v40 (F := Ideal) x0 x2 x3 x4 x5 x6 x7 x8 x9 x10 x11 x12 x13 (ix2 a b)) (((lapR MQr MQi (sym D₀)) * Mxr) * W₀) :=
  isMat_mul (mat_v39 hQr hQi hxr h0) (mat_v38 hW0) (fun a b => v40_at x0 x2 x3 x4 x5 x6 x7 x8 x9 x10 x11 x12 x13 a b)
theorem mat_v41 (hQr : IsMat (fun a b => x3 (ix2 a b)) MQr) (hQi : IsMat (fun a b => x4 (ix2 a b)) MQi) (hxi : IsMat (fun a b => x1 (ix2 a b)) Mxi) (h0 : IsMat (fun k l => val_main_v13 (F := Ideal) x2 x5 x6 x7 x8 x9 x10 x11 x12 (ix1 (slot 0 k l))) D₀) :
    IsMat (fun a b => val_main_v41 (F := Ideal) x1 x2 x3 x4 x5 x6 x7 x8 x9 x10 x11 x12 (ix2 a b)) ((lapI MQr MQi (sym D₀)) * Mxi) :=
  isMat_mul (mat_v36 hQr hQi h0) hxi (fun a b => v41_at x1 x2 x3 x4 x5 x6 x7 x8 x9 x10 x11 x12 a b)
theorem mat_v42 (hQr : IsMat (fun a b => x3 (ix2 a b)) MQr) (hQi : IsMat (fun a b => x4 (ix2 a b)) MQi) (hxi : IsMat (fun a b => x1 (ix2 a b)) Mxi) (h0 : IsMat (fun k l => val_main_v13 (F := Ideal) x2 x5 x6 x7 x8 x9 x10 x11 x12 (ix1 (slot 0 k l))) D₀) (hW0 : IsMat (fun a b => x13 (ix3 0 a b)) W₀) :
    IsMat (fun a b => val_main_v42 (F := Ideal) x1 x2 x3 x4 x5 x6 x7 x8 x9 x10 x11 x12 x13 (ix2 a b)) (((lapI MQr MQi (sym D₀)) * Mxi) * W₀) :=
  isMat_mul (mat_v41 hQr hQi hxi h0) (mat_v38 hW0) (fun a b => v42_at x1 x2 x3 x4 x5 x6 x7 x8 x9 x10 x11 x12 x13 a b)
theorem mat_v43 (hQr : IsMat (fun a b => x3 (ix2 a b)) MQr) (hQi : IsMat (fun a b => x4 (ix2 a b)) MQi) (hxr : IsMat (fun a b => x0 (ix2 a b)) Mxr) (hxi : IsMat (fun a b => x1 (ix2 a b)) Mxi) (h0 : IsMat (fun k l => val_main_v13 (F := Ideal) x2 x5 x6 x7 x8 x9 x10 x11 x12 (ix1 (slot 0 k l))) D₀) (hW0 : IsMat (fun a b => x13 (ix3 0 a b)) W₀) :
    IsMat (fun a b => val_main_v43 (F := Ideal) x0 x1 x2 x3 x4 x5 x6 x7 x8 x9 x10 x11 x12 x13 (ix2 a b)) ((((lapR MQr MQi (sym D₀)) * Mxr) * W₀) - (((lapI MQr MQi (sym D₀)) * Mxi) * W₀)) :=
  isMat_sub (mat_v40 hQr hQi hxr h0 hW0) (mat_v42 hQr hQi hxi h0 hW0) (fun a b => v43_at x0 x1 x2 x3 x4 x5 x6 x7 x8 x9 x10 x11 x12 x13 a b)
theorem mat_v44 (hQr : IsMat (fun a b => x3 (ix2 a b)) MQr) (hQi : IsMat (fun a b => x4 (ix2 a b)) MQi) (hxr : IsMat (fun a b => x0 (ix2 a b)) Mxr) (h0 : IsMat (fun k l => val_main_v13 (F := Ideal) x2 x5 x6 x7 x8 x9 x10 x11 x12 (ix1 (slot 0 k l))) D₀) :
    IsMat (fun a b => val_main_v44 (F := Ideal) x0 x2 x3 x4 x5 x6 x7 x8 x9 x10 x11 x12 (ix2 a b)) ((lapI MQr MQi (sym D₀)) * Mxr) :=
  isMat_mul (mat_v36 hQr hQi h0) hxr (fun a b => v44_at x0 x2 x3 x4 x5 x6 x7 x8 x9 x10 x11 x12 a b)
theorem mat_v45 (hQr : IsMat (fun a b => x3 (ix2 a b)) MQr) (hQi : IsMat (fun a b => x4 (ix2 a b)) MQi) (hxr : IsMat (fun a b => x0 (ix2 a b)) Mxr) (h0 : IsMat (fun k l => val_main_v13 (F := Ideal) x2 x5 x6 x7 x8 x9 x10 x11 x12 (ix1 (slot 0 k l))) D₀) (hW0 : IsMat (fun a b => x13 (ix3 0 a b)) W₀) :
    IsMat (fun a b => val_main_v45 (F := Ideal) x0 x2 x3 x4 x5 x6 x7 x8 x9 x10 x11 x12 x13 (ix2 a b)) (((lapI MQr MQi (sym D₀)) * Mxr) * W₀) :=
  isMat_mul (mat_v44 hQr hQi hxr h0) (mat_v38 hW0) (fun a b => v45_at x0 x2 x3 x4 x5 x6 x7 x8 x9 x10 x11 x12 x13 a b)
theorem mat_v46 (hQr : IsMat (fun a b => x3 (ix2 a b)) MQr) (hQi : IsMat (fun a b => x4 (ix2 a b)) MQi) (hxi : IsMat (fun a b => x1 (ix2 a b)) Mxi) (h0 : IsMat (fun k l => val_main_v13 (F := Ideal) x2 x5 x6 x7 x8 x9 x10 x11 x12 (ix1 (slot 0 k l))) D₀) :
    IsMat (fun a b => val_main_v46 (F := Ideal) x1 x2 x3 x4 x5 x6 x7 x8 x9 x10 x11 x12 (ix2 a b)) ((lapR MQr MQi (sym D₀)) * Mxi) :=
  isMat_mul (mat_v29 hQr hQi h0) hxi (fun a b => v46_at x1 x2 x3 x4 x5 x6 x7 x8 x9 x10 x11 x12 a b)
theorem mat_v47 (hQr : IsMat (fun a b => x3 (ix2 a b)) MQr) (hQi : IsMat (fun a b => x4 (ix2 a b)) MQi) (hxi : IsMat (fun a b => x1 (ix2 a b)) Mxi) (h0 : IsMat (fun k l => val_main_v13 (F := Ideal) x2 x5 x6 x7 x8 x9 x10 x11 x12 (ix1 (slot 0 k l))) D₀) (hW0 : IsMat (fun a b => x13 (ix3 0 a b)) W₀) :
    IsMat (fun a b => val_main_v47 (F := Ideal) x1 x2 x3 x4 x5 x6 x7 x8 x9 x10 x11 x12 x13 (ix2 a b)) (((lapR MQr MQi (sym D₀)) * Mxi) * W₀) :=
  isMat_mul (mat_v46 hQr hQi hxi h0) (mat_v38 hW0) (fun a b => v47_at x1 x2 x3 x4 x5 x6 x7 x8 x9 x10 x11 x12 x13 a b)
theorem mat_v48 (hQr : IsMat (fun a b => x3 (ix2 a b)) MQr) (hQi : IsMat (fun a b => x4 (ix2 a b)) MQi) (hxr : IsMat (fun a b => x0 (ix2 a b)) Mxr) (hxi : IsMat (fun a b => x1 (ix2 a b)) Mxi) (h0 : IsMat (fun k l => val_main_v13 (F := Ideal) x2 x5 x6 x7 x8 x9 x10 x11 x12 (ix1 (slot 0 k l))) D₀) (hW0 : IsMat (fun a b => x13 (ix3 0 a b)) W₀) :
    IsMat (fun a b => val_main_v48 (F := Ideal) x0 x1 x2 x3 x4 x5 x6 x7 x8 x9 x10 x11 x12 x13 (ix2 a b)) ((((lapI MQr MQi (sym D₀)) * Mxr) * W₀) + (((lapR MQr MQi (sym D₀)) * Mxi) * W₀)) :=
  isMat_add (mat_v45 hQr hQi hxr h0 hW0) (mat_v47 hQr hQi hxi h0 hW0) (fun a b => v48_at x0 x1 x2 x3 x4 x5 x6 x7 x8 x9 x10 x11 x12 x13 a b)
theorem mat_v49 (hQr : IsMat (fun a b => x3 (ix2 a b)) MQr) (hQi : IsMat (fun a b => x4 (ix2 a b)) MQi) (hxr : IsMat (fun a b => x0 (ix2 a b)) Mxr) (hxi : IsMat (fun a b => x1 (ix2 a b)) Mxi) (h0 : IsMat (fun k l => val_main_v13 (F := Ideal) x2 x5 x6 x7 x8 x9 x10 x11 x12 (ix1 (slot 0 k l))) D₀) (hW0 : IsMat (fun a b => x13 (ix3 0 a b)) W₀) :
    IsMat (fun a b => val_main_v49 (F := Ideal) x0 x1 x2 x3 x4 x5 x6 x7 x8 x9 x10 x11 x12 x13 (ix2 a b)) ((((lapR MQr MQi (sym D₀)) * Mxr) * W₀) - (((lapI MQr MQi (sym D₀)) * Mxi) * W₀)) :=
  fun a b => (v49_at x0 x1 x2 x3 x4 x5 x6 x7 x8 x9 x10 x11 x12 x13 a b).trans ((mat_v43 hQr hQi hxr hxi h0 hW0) a b)
theorem mat_v50 (hQr : IsMat (fun a b => x3 (ix2 a b)) MQr) (hQi : IsMat (fun a b => x4 (ix2 a b)) MQi) (hxr : IsMat (fun a b => x0 (ix2 a b)) Mxr) (hxi : IsMat (fun a b => x1 (ix2 a b)) Mxi) (h0 : IsMat (fun k l => val_main_v13 (F := Ideal) x2 x5 x6 x7 x8 x9 x10 x11 x12 (ix1 (slot 0 k l))) D₀) (hW0 : IsMat (fun a b => x13 (ix3 0 a b)) W₀) :
    IsMat (fun a b => val_main_v50 (F := Ideal) x0 x1 x2 x3 x4 x5 x6 x7 x8 x9 x10 x11 x12 x13 (ix2 a b)) ((((lapI MQr MQi (sym D₀)) * Mxr) * W₀) + (((lapR MQr MQi (sym D₀)) * Mxi) * W₀)) :=
  fun a b => (v50_at x0 x1 x2 x3 x4 x5 x6 x7 x8 x9 x10 x11 x12 x13 a b).trans ((mat_v48 hQr hQi hxr hxi h0 hW0) a b)
theorem mat_v53 (hQr : IsMat (fun a b => x3 (ix2 a b)) MQr) (h1 : IsMat (fun k l => val_main_v13 (F := Ideal) x2 x5 x6 x7 x8 x9 x10 x11 x12 (ix1 (slot 1 k l))) D₁) :
    IsMat (fun a b => val_main_v53 (F := Ideal) x2 x3 x5 x6 x7 x8 x9 x10 x11 x12 (ix2 a b)) (MQr * (sym D₁)) :=
  isMat_mul hQr (mat_v52 h1) (fun a b => v53_at x2 x3 x5 x6 x7 x8 x9 x10 x11 x12 a b)
theorem mat_v54 (hQr : IsMat (fun a b => x3 (ix2 a b)) MQr) :
    IsMat (fun a b => val_main_v54 (F := Ideal) x3 (ix2 a b)) (MQrᵀ) :=
  fun a b => (v54_at x3 a b).trans (hQr b a)
theorem mat_v55 (hQr : IsMat (fun a b => x3 (ix2 a b)) MQr) (h1 : IsMat (fun k l => val_main_v13 (F := Ideal) x2 x5 x6 x7 x8 x9 x10 x11 x12 (ix1 (slot 1 k l))) D₁) :
    IsMat (fun a b => val_main_v55 (F := Ideal) x2 x3 x5 x6 x7 x8 x9 x10 x11 x12 (ix2 a b)) ((MQr * (sym D₁)) * MQrᵀ) :=
  isMat_mul (mat_v53 hQr h1) (mat_v54 hQr) (fun a b => v55_at x2 x3 x5 x6 x7 x8 x9 x10 x11 x12 a b)
theorem mat_v56 (hQi : IsMat (fun a b => x4 (ix2 a b)) MQi) (h1 : IsMat (fun k l => val_main_v13 (F := Ideal) x2 x5 x6 x7 x8 x9 x10 x11 x12 (ix1 (slot 1 k l))) D₁) :
    IsMat (fun a b => val_main_v56 (F := Ideal) x2 x4 x5 x6 x7 x8 x9 x10 x11 x12 (ix2 a b)) (MQi * (sym D₁)) :=
  isMat_mul hQi (mat_v52 h1) (fun a b => v56_at x2 x4 x5 x6 x7 x8 x9 x10 x11 x12 a b)
theorem mat_v57 (hQi : IsMat (fun a b => x4 (ix2 a b)) MQi) :
    IsMat (fun a b => val_main_v57 (F := Ideal) x4 (ix2 a b)) (MQiᵀ) :=
  fun a b => (v57_at x4 a b).trans (hQi b a)
theorem mat_v58 (hQi : IsMat (fun a b => x4 (ix2 a b)) MQi) (h1 : IsMat (fun k l => val_main_v13 (F := Ideal) x2 x5 x6 x7 x8 x9 x10 x11 x12 (ix1 (slot 1 k l))) D₁) :
    IsMat (fun a b => val_main_v58 (F := Ideal) x2 x4 x5 x6 x7 x8 x9 x10 x11 x12 (ix2 a b)) ((MQi * (sym D₁)) * MQiᵀ) :=
  isMat_mul (mat_v56 hQi h1) (mat_v57 hQi) (fun a b => v58_at x2 x4 x5 x6 x7 x8 x9 x10 x11 x12 a b)
theorem mat_v59 (hQr : IsMat (fun a b => x3 (ix2 a b)) MQr) (hQi : IsMat (fun a b => x4 (ix2 a b)) MQi) (h1 : IsMat (fun k l => val_main_v13 (F := Ideal) x2 x5 x6 x7 x8 x9 x10 x11 x12 (ix1 (slot 1 k l))) D₁) :
    IsMat (fun a b => val_main_v59 (F := Ideal) x2 x3 x4 x5 x6 x7 x8 x9 x10 x11 x12 (ix2 a b)) (lapR MQr MQi (sym D₁)) :=
  isMat_add (mat_v55 hQr h1) (mat_v58 hQi h1) (fun a b => v59_at x2 x3 x4 x5 x6 x7 x8 x9 x10 x11 x12 a b)
theorem mat_v60 (hQi : IsMat (fun a b => x4 (ix2 a b)) MQi) (h1 : IsMat (fun k l => val_main_v13 (F := Ideal) x2 x5 x6 x7 x8 x9 x10 x11 x12 (ix1 (slot 1 k l))) D₁) :
    IsMat (fun a b => val_main_v60 (F := Ideal) x2 x4 x5 x6 x7 x8 x9 x10 x11 x12 (ix2 a b)) (MQi * (sym D₁)) :=
  isMat_mul hQi (mat_v52 h1) (fun a b => v60_at x2 x4 x5 x6 x7 x8 x9 x10 x11 x12 a b)
theorem mat_v61 (hQr : IsMat (fun a b => x3 (ix2 a b)) MQr) :
    IsMat (fun a b => val_main_v61 (F := Ideal) x3 (ix2 a b)) (MQrᵀ) :=
  fun a b => (v61_at x3 a b).trans (hQr b a)
theorem mat_v62 (hQr : IsMat (fun a b => x3 (ix2 a b)) MQr) (hQi : IsMat (fun a b => x4 (ix2 a b)) MQi) (h1 : IsMat (fun k l => val_main_v13 (F := Ideal) x2 x5 x6 x7 x8 x9 x10 x11 x12 (ix1 (slot 1 k l))) D₁) :
    IsMat (fun a b => val_main_v62 (F := Ideal) x2 x3 x4 x5 x6 x7 x8 x9 x10 x11 x12 (ix2 a b)) ((MQi * (sym D₁)) * MQrᵀ) :=
  isMat_mul (mat_v60 hQi h1) (mat_v61 hQr) (fun a b => v62_at x2 x3 x4 x5 x6 x7 x8 x9 x10 x11 x12 a b)
theorem mat_v63 (hQr : IsMat (fun a b => x3 (ix2 a b)) MQr) (h1 : IsMat (fun k l => val_main_v13 (F := Ideal) x2 x5 x6 x7 x8 x9 x10 x11 x12 (ix1 (slot 1 k l))) D₁) :
    IsMat (fun a b => val_main_v63 (F := Ideal) x2 x3 x5 x6 x7 x8 x9 x10 x11 x12 (ix2 a b)) (MQr * (sym D₁)) :=
  isMat_mul hQr (mat_v52 h1) (fun a b => v63_at x2 x3 x5 x6 x7 x8 x9 x10 x11 x12 a b)
theorem mat_v64 (hQi : IsMat (fun a b => x4 (ix2 a b)) MQi) :
    IsMat (fun a b => val_main_v64 (F := Ideal) x4 (ix2 a b)) (MQiᵀ) :=
  fun a b => (v64_at x4 a b).trans (hQi b a)
theorem mat_v65 (hQr : IsMat (fun a b => x3 (ix2 a b)) MQr) (hQi : IsMat (fun a b => x4 (ix2 a b)) MQi) (h1 : IsMat (fun k l => val_main_v13 (F := Ideal) x2 x5 x6 x7 x8 x9 x10 x11 x12 (ix1 (slot 1 k l))) D₁) :
    IsMat (fun a b => val_main_v65 (F := Ideal) x2 x3 x4 x5 x6 x7 x8 x9 x10 x11 x12 (ix2 a b)) ((MQr * (sym D₁)) * MQiᵀ) :=
  isMat_mul (mat_v63 hQr h1) (mat_v64 hQi) (fun a b => v65_at x2 x3 x4 x5 x6 x7 x8 x9 x10 x11 x12 a b)
theorem mat_v66 (hQr : IsMat (fun a b => x3 (ix2 a b)) MQr) (hQi : IsMat (fun a b => x4 (ix2 a b)) MQi) (h1 : IsMat (fun k l => val_main_v13 (F := Ideal) x2 x5 x6 x7 x8 x9 x10 x11 x12 (ix1 (slot 1 k l))) D₁) :
    IsMat (fun a b => val_main_v66 (F := Ideal) x2 x3 x4 x5 x6 x7 x8 x9 x10 x11 x12 (ix2 a b)) (lapI MQr MQi (sym D₁)) :=
  isMat_sub (mat_v62 hQr hQi h1) (mat_v65 hQr hQi h1) (fun a b => v66_at x2 x3 x4 x5 x6 x7 x8 x9 x10 x11 x12 a b)
theorem mat_v69 (hQr : IsMat (fun a b => x3 (ix2 a b)) MQr) (hQi : IsMat (fun a b => x4 (ix2 a b)) MQi) (hxr : IsMat (fun a b => x0 (ix2 a b)) Mxr) (h1 : IsMat (fun k l => val_main_v13 (F := Ideal) x2 x5 x6 x7 x8 x9 x10 x11 x12 (ix1 (slot 1 k l))) D₁) :
    IsMat (fun a b => val_main_v69 (F := Ideal) x0 x2 x3 x4 x5 x6 x7 x8 x9 x10 x11 x12 (ix2 a b)) ((lapR MQr MQi (sym D₁)) * Mxr) :=
  isMat_mul (mat_v59 hQr hQi h1) hxr (fun a b => v69_at x0 x2 x3 x4 x5 x6 x7 x8 x9 x10 x11 x12 a b)
theorem mat_v70 (hQr : IsMat (fun a b => x3 (ix2 a b)) MQr) (hQi : IsMat (fun a b => x4 (ix2 a b)) MQi) (hxr : IsMat (fun a b => x0 (ix2 a b)) Mxr) (h1 : IsMat (fun k l => val_main_v13 (F := Ideal) x2 x5 x6 x7 x8 x9 x10 x11 x12 (ix1 (slot 1 k l))) D₁) (hW1 : IsMat (fun a b => x13 (ix3 1 a b)) W₁) :
    IsMat (fun a b => val_main_v70 (F := Ideal) x0 x2 x3 x4 x5 x6 x7 x8 x9 x10 x11 x12 x13 (ix2 a b)) (((lapR MQr MQi (sym D₁)) * Mxr) * W₁) :=
  isMat_mul (mat_v69 hQr hQi hxr h1) (mat_v68 hW1) (fun a b => v70_at x0 x2 x3 x4 x5 x6 x7 x8 x9 x10 x11 x12 x13 a b)
theorem mat_v71 (hQr : IsMat (fun a b => x3 (ix2 a b)) MQr) (hQi : IsMat (fun a b => x4 (ix2 a b)) MQi) (hxi : IsMat (fun a b => x1 (ix2 a b)) Mxi) (h1 : IsMat (fun k l => val_main_v13 (F := Ideal) x2 x5 x6 x7 x8 x9 x10 x11 x12 (ix1 (slot 1 k l))) D₁) :
    IsMat (fun a b => val_main_v71 (F := Ideal) x1 x2 x3 x4 x5 x6 x7 x8 x9 x10 x11 x12 (ix2 a b)) ((lapI MQr MQi (sym D₁)) * Mxi) :=
  isMat_mul (mat_v66 hQr hQi h1) hxi (fun a b => v71_at x1 x2 x3 x4 x5 x6 x7 x8 x9 x10 x11 x12 a b)
theorem mat_v72 (hQr : IsMat (fun a b => x3 (ix2 a b)) MQr) (hQi : IsMat (fun a b => x4 (ix2 a b)) MQi) (hxi : IsMat (fun a b => x1 (ix2 a b)) Mxi) (h1 : IsMat (fun k l => val_main_v13 (F := Ideal) x2 x5 x6 x7 x8 x9 x10 x11 x12 (ix1 (slot 1 k l))) D₁) (hW1 : IsMat (fun a b => x13 (ix3 1 a b)) W₁) :
    IsMat (fun a b => val_main_v72 (F := Ideal) x1 x2 x3 x4 x5 x6 x7 x8 x9 x10 x11 x12 x13 (ix2 a b)) (((lapI MQr MQi (sym D₁)) * Mxi) * W₁) :=
  isMat_mul (mat_v71 hQr hQi hxi h1) (mat_v68 hW1) (fun a b => v72_at x1 x2 x3 x4 x5 x6 x7 x8 x9 x10 x11 x12 x13 a b)
theorem mat_v73 (hQr : IsMat (fun a b => x3 (ix2 a b)) MQr) (hQi : IsMat (fun a b => x4 (ix2 a b)) MQi) (hxr : IsMat (fun a b => x0 (ix2 a b)) Mxr) (hxi : IsMat (fun a b => x1 (ix2 a b)) Mxi) (h1 : IsMat (fun k l => val_main_v13 (F := Ideal) x2 x5 x6 x7 x8 x9 x10 x11 x12 (ix1 (slot 1 k l))) D₁) (hW1 : IsMat (fun a b => x13 (ix3 1 a b)) W₁) :
    IsMat (fun a b => val_main_v73 (F := Ideal) x0 x1 x2 x3 x4 x5 x6 x7 x8 x9 x10 x11 x12 x13 (ix2 a b)) ((((lapR MQr MQi (sym D₁)) * Mxr) * W₁) - (((lapI MQr MQi (sym D₁)) * Mxi) * W₁)) :=
  isMat_sub (mat_v70 hQr hQi hxr h1 hW1) (mat_v72 hQr hQi hxi h1 hW1) (fun a b => v73_at x0 x1 x2 x3 x4 x5 x6 x7 x8 x9 x10 x11 x12 x13 a b)
theorem mat_v74 (hQr : IsMat (fun a b => x3 (ix2 a b)) MQr) (hQi : IsMat (fun a b => x4 (ix2 a b)) MQi) (hxr : IsMat (fun a b => x0 (ix2 a b)) Mxr) (h1 : IsMat (fun k l => val_main_v13 (F := Ideal) x2 x5 x6 x7 x8 x9 x10 x11 x12 (ix1 (slot 1 k l))) D₁) :
    IsMat (fun a b => val_main_v74 (F := Ideal) x0 x2 x3 x4 x5 x6 x7 x8 x9 x10 x11 x12 (ix2 a b)) ((lapI MQr MQi (sym D₁)) * Mxr) :=
  isMat_mul (mat_v66 hQr hQi h1) hxr (fun a b => v74_at x0 x2 x3 x4 x5 x6 x7 x8 x9 x10 x11 x12 a b)
theorem mat_v75 (hQr : IsMat (fun a b => x3 (ix2 a b)) MQr) (hQi : IsMat (fun a b => x4 (ix2 a b)) MQi) (hxr : IsMat (fun a b => x0 (ix2 a b)) Mxr) (h1 : IsMat (fun k l => val_main_v13 (F := Ideal) x2 x5 x6 x7 x8 x9 x10 x11 x12 (ix1 (slot 1 k l))) D₁) (hW1 : IsMat (fun a b => x13 (ix3 1 a b)) W₁) :
    IsMat (fun a b => val_main_v75 (F := Ideal) x0 x2 x3 x4 x5 x6 x7 x8 x9 x10 x11 x12 x13 (ix2 a b)) (((lapI MQr MQi (sym D₁)) * Mxr) * W₁) :=
  isMat_mul (mat_v74 hQr hQi hxr h1) (mat_v68 hW1) (fun a b => v75_at x0 x2 x3 x4 x5 x6 x7 x8 x9 x10 x11 x12 x13 a b)
theorem mat_v76 (hQr : IsMat (fun a b => x3 (ix2 a b)) MQr) (hQi : IsMat (fun a b => x4 (ix2 a b)) MQi) (hxi : IsMat (fun a b => x1 (ix2 a b)) Mxi) (h1 : IsMat (fun k l => val_main_v13 (F := Ideal) x2 x5 x6 x7 x8 x9 x10 x11 x12 (ix1 (slot 1 k l))) D₁) :
    IsMat (fun a b => val_main_v76 (F := Ideal) x1 x2 x3 x4 x5 x6 x7 x8 x9 x10 x11 x12 (ix2 a b)) ((lapR MQr MQi (sym D₁)) * Mxi) :=
  isMat_mul (mat_v59 hQr hQi h1) hxi (fun a b => v76_at x1 x2 x3 x4 x5 x6 x7 x8 x9 x10 x11 x12 a b)
theorem mat_v77 (hQr : IsMat (fun a b => x3 (ix2 a b)) MQr) (hQi : IsMat (fun a b => x4 (ix2 a b)) MQi) (hxi : IsMat (fun a b => x1 (ix2 a b)) Mxi) (h1 : IsMat (fun k l => val_main_v13 (F := Ideal) x2 x5 x6 x7 x8 x9 x10 x11 x12 (ix1 (slot 1 k l))) D₁) (hW1 : IsMat (fun a b => x13 (ix3 1 a b)) W₁) :
    IsMat (fun a b => val_main_v77 (F := Ideal) x1 x2 x3 x4 x5 x6 x7 x8 x9 x10 x11 x12 x13 (ix2 a b)) (((lapR MQr MQi (sym D₁)) * Mxi) * W₁) :=
  isMat_mul (mat_v76 hQr hQi hxi h1) (mat_v68 hW1) (fun a b => v77_at x1 x2 x3 x4 x5 x6 x7 x8 x9 x10 x11 x12 x13 a b)
theorem mat_v78 (hQr : IsMat (fun a b => x3 (ix2 a b)) MQr) (hQi : IsMat (fun a b => x4 (ix2 a b)) MQi) (hxr : IsMat (fun a b => x0 (ix2 a b)) Mxr) (hxi : IsMat (fun a b => x1 (ix2 a b)) Mxi) (h1 : IsMat (fun k l => val_main_v13 (F := Ideal) x2 x5 x6 x7 x8 x9 x10 x11 x12 (ix1 (slot 1 k l))) D₁) (hW1 : IsMat (fun a b => x13 (ix3 1 a b)) W₁) :
    IsMat (fun a b => val_main_v78 (F := Ideal) x0 x1 x2 x3 x4 x5 x6 x7 x8 x9 x10 x11 x12 x13 (ix2 a b)) ((((lapI MQr MQi (sym D₁)) * Mxr) * W₁) + (((lapR MQr MQi (sym D₁)) * Mxi) * W₁)) :=
  isMat_add (mat_v75 hQr hQi hxr h1 hW1) (mat_v77 hQr hQi hxi h1 hW1) (fun a b => v78_at x0 x1 x2 x3 x4 x5 x6 x7 x8 x9 x10 x11 x12 x13 a b)
theorem mat_v79 (hQr : IsMat (fun a b => x3 (ix2 a b)) MQr) (hQi : IsMat (fun a b => x4 (ix2 a b)) MQi) (hxr : IsMat (fun a b => x0 (ix2 a b)) Mxr) (hxi : IsMat (fun a b => x1 (ix2 a b)) Mxi) (h0 : IsMat (fun k l => val_main_v13 (F := Ideal) x2 x5 x6 x7 x8 x9 x10 x11 x12 (ix1 (slot 0 k l))) D₀) (h1 : IsMat (fun k l => val_main_v13 (F := Ideal) x2 x5 x6 x7 x8 x9 x10 x11 x12 (ix1 (slot 1 k l))) D₁) (hW0 : IsMat (fun a b => x13 (ix3 0 a b)) W₀) (hW1 : IsMat (fun a b => x13 (ix3 1 a b)) W₁) :
    IsMat (fun a b => val_main_v79 (F := Ideal) x0 x1 x2 x3 x4 x5 x6 x7 x8 x9 x10 x11 x12 x13 (ix2 a b)) (((((lapR MQr MQi (sym D₀)) * Mxr) * W₀) - (((lapI MQr MQi (sym D₀)) * Mxi) * W₀)) + ((((lapR MQr MQi (sym D₁)) * Mxr) * W₁) - (((lapI MQr MQi (sym D₁)) * Mxi) * W₁))) :=
  isMat_add (mat_v49 hQr hQi hxr hxi h0 hW0) (mat_v73 hQr hQi hxr hxi h1 hW1) (fun a b => v79_at x0 x1 x2 x3 x4 x5 x6 x7 x8 x9 x10 x11 x12 x13 a b)
theorem mat_v80 (hQr : IsMat (fun a b => x3 (ix2 a b)) MQr) (hQi : IsMat (fun a b => x4 (ix2 a b)) MQi) (hxr : IsMat (fun a b => x0 (ix2 a b)) Mxr) (hxi : IsMat (fun a b => x1 (ix2 a b)) Mxi) (h0 : IsMat (fun k l => val_main_v13 (F := Ideal) x2 x5 x6 x7 x8 x9 x10 x11 x12 (ix1 (slot 0 k l))) D₀) (h1 : IsMat (fun k l => val_main_v13 (F := Ideal) x2 x5 x6 x7 x8 x9 x10 x11 x12 (ix1 (slot 1 k l))) D₁) (hW0 : IsMat (fun a b => x13 (ix3 0 a b)) W₀) (hW1 : IsMat (fun a b => x13 (ix3 1 a b)) W₁) :
    IsMat (fun a b => val_main_v80 (F := Ideal) x0 x1 x2 x3 x4 x5 x6 x7 x8 x9 x10 x11 x12 x13 (ix2 a b)) (((((lapI MQr MQi (sym D₀)) * Mxr) * W₀) + (((lapR MQr MQi (sym D₀)) * Mxi) * W₀)) + ((((lapI MQr MQi (sym D₁)) * Mxr) * W₁) + (((lapR MQr MQi (sym D₁)) * Mxi) * W₁))) :=
  isMat_add (mat_v50 hQr hQi hxr hxi h0 hW0) (mat_v78 hQr hQi hxr hxi h1 hW1) (fun a b => v80_at x0 x1 x2 x3 x4 x5 x6 x7 x8 x9 x10 x11 x12 x13 a b)

/-- The real result: the real part of the spectral convolution, plus the bias. -/
theorem real_at (x14 : FVec Ideal S1x128 .f32) (hQr : IsMat (fun a b => x3 (ix2 a b)) MQr) (hQi : IsMat (fun a b => x4 (ix2 a b)) MQi) (hxr : IsMat (fun a b => x0 (ix2 a b)) Mxr) (hxi : IsMat (fun a b => x1 (ix2 a b)) Mxi) (h0 : IsMat (fun k l => val_main_v13 (F := Ideal) x2 x5 x6 x7 x8 x9 x10 x11 x12 (ix1 (slot 0 k l))) D₀) (h1 : IsMat (fun k l => val_main_v13 (F := Ideal) x2 x5 x6 x7 x8 x9 x10 x11 x12 (ix1 (slot 1 k l))) D₁) (hW0 : IsMat (fun a b => x13 (ix3 0 a b)) W₀) (hW1 : IsMat (fun a b => x13 (ix3 1 a b)) W₁) (n : Fin 5000) (o : Fin 128) :
    val_main_v82 (F := Ideal) x0 x1 x2 x3 x4 x5 x6 x7 x8 x9 x10 x11 x12 x13 x14 (ix2 n o)
      = (((MQr * spec (sym D₀) (sym D₁) W₀ W₁ (prU MQr MQi Mxr Mxi) + MQi * spec (sym D₀) (sym D₁) W₀ W₁ (prV MQr MQi Mxr Mxi)) n o : ℝ) : EReal)
        + x14 (ix2 0 o) := by
  rw [v82_at, ← two_scales_real]
  exact congrArg (· + x14 (ix2 0 o)) (mat_v79 hQr hQi hxr hxi h0 h1 hW0 hW1 n o)

/-- The imaginary result: the imaginary part of the spectral convolution, plus the bias. -/
theorem imag_at (x14 : FVec Ideal S1x128 .f32) (hQr : IsMat (fun a b => x3 (ix2 a b)) MQr) (hQi : IsMat (fun a b => x4 (ix2 a b)) MQi) (hxr : IsMat (fun a b => x0 (ix2 a b)) Mxr) (hxi : IsMat (fun a b => x1 (ix2 a b)) Mxi) (h0 : IsMat (fun k l => val_main_v13 (F := Ideal) x2 x5 x6 x7 x8 x9 x10 x11 x12 (ix1 (slot 0 k l))) D₀) (h1 : IsMat (fun k l => val_main_v13 (F := Ideal) x2 x5 x6 x7 x8 x9 x10 x11 x12 (ix1 (slot 1 k l))) D₁) (hW0 : IsMat (fun a b => x13 (ix3 0 a b)) W₀) (hW1 : IsMat (fun a b => x13 (ix3 1 a b)) W₁) (n : Fin 5000) (o : Fin 128) :
    val_main_v84 (F := Ideal) x0 x1 x2 x3 x4 x5 x6 x7 x8 x9 x10 x11 x12 x13 x14 (ix2 n o)
      = (((MQi * spec (sym D₀) (sym D₁) W₀ W₁ (prU MQr MQi Mxr Mxi) - MQr * spec (sym D₀) (sym D₁) W₀ W₁ (prV MQr MQi Mxr Mxi)) n o : ℝ) : EReal)
        + x14 (ix2 0 o) := by
  rw [v84_at, ← two_scales_imag]
  exact congrArg (· + x14 (ix2 0 o)) (mat_v80 hQr hQi hxr hxi h0 h1 hW0 hW1 n o)

end Cert.ReferenceIdeal.At
-- ==== Proof.Coef.lean ====
/-
  The coefficients. The kernel's perceptron works on a row of shape 1 × n and the reference's on a vector, layer by layer the
  same sums: their 1800 coefficients agree for all contents. Of real arrays they are real.
-/
module

public import proofs.«01_k».proof.Proof.KernelReads
public import proofs.«01_k».proof.Proof.ReferenceReads
public import proofs.«01_k».proof.Proof.Spectral

@[expose] public section

set_option maxRecDepth 16384

noncomputable section

namespace Cert.Coef

open Cert.KernelIdeal Cert.KernelIdeal.Gen Cert.KernelIdeal.Hand
open Cert.ReferenceIdeal.Read Cert.ReferenceIdeal.At
open Idealize.ShloMosaic
open Cert.Spectral

/-- A vector stood up as a row. -/
theorem row1024 (b : FVec Ideal S1024 .f32) (j : Fin 1024) : shapeCast S1x1024 b shapeCasts_S1024_S1x1024 (ix2 0 j) = b (ix1 j) := by
  pointwise []
theorem row1800 (b : FVec Ideal S1800 .f32) (j : Fin 1800) : shapeCast S1x1800 b shapeCasts_S1800_S1x1800 (ix2 0 j) = b (ix1 j) := by
  pointwise []

variable (T : FVec Ideal S30x30 .f32) (W1 : FVec Ideal S1800x1024 .f32) (b1 : FVec Ideal S1024 .f32) (W2 : FVec Ideal S1024x1024 .f32) (b2 : FVec Ideal S1024 .f32)
  (W3 : FVec Ideal S1024x1024 .f32) (b3 : FVec Ideal S1024 .f32) (W4 : FVec Ideal S1024x1800 .f32) (b4 : FVec Ideal S1800 .f32)

/-- The flattened `[T, T²]`. -/
theorem input_eq (j : Fin 1800) : k0_pay1 (F := Ideal) T (ix2 0 j) = val_main_v2 (F := Ideal) T (ix1 j) := by
  rw [pay1_at, cat_at, v2_at, v1_at]

/-- The first layer. -/
theorem layer1_eq (j : Fin 1024) :
    k0_pay2 (F := Ideal) (k0_pay1 (F := Ideal) T) W1 (shapeCast S1x1024 b1 shapeCasts_S1024_S1x1024) (ix2 0 j) = val_main_v5 (F := Ideal) T W1 b1 (ix1 j) := by
  rw [pay2_at, row1024, v5_at, v3_at]
  simp only [input_eq]

/-- The kernel's coefficients are the reference's. -/
theorem coef_eq (j : Fin 1800) :
    coef T W1 (shapeCast S1x1024 b1 shapeCasts_S1024_S1x1024) W2 (shapeCast S1x1024 b2 shapeCasts_S1024_S1x1024) W3
        (shapeCast S1x1024 b3 shapeCasts_S1024_S1x1024) W4 (shapeCast S1x1800 b4 shapeCasts_S1800_S1x1800) (ix2 0 j)
      = val_main_v13 (F := Ideal) T W1 b1 W2 b2 W3 b3 W4 b4 (ix1 j) := by
  rw [coef, pay5_at, row1800, v13_at, v12_at]
  simp only [pay3_at, row1024, v11_at, v9_at, v8_at, v6_at]
  exact congrArg (· + b4 (ix1 j)) (Finset.sum_congr rfl fun x _ => congrArg (fun z => max (z + b3 (ix1 x)) 0 * W4 (ix2 x j))
    (Finset.sum_congr rfl fun y _ => congrArg (fun z => max (z + b2 (ix1 y)) 0 * W3 (ix2 y x))
      (Finset.sum_congr rfl fun q _ => congrArg (· * W2 (ix2 q y)) (layer1_eq T W1 b1 q))))

/-- Of real arrays the coefficients are real. -/
theorem coef_real (hT : ∀ i, Real' (T i)) (hW1 : ∀ i, Real' (W1 i)) (hb1 : ∀ i, Real' (b1 i)) (hW2 : ∀ i, Real' (W2 i)) (hb2 : ∀ i, Real' (b2 i))
    (hW3 : ∀ i, Real' (W3 i)) (hb3 : ∀ i, Real' (b3 i)) (hW4 : ∀ i, Real' (W4 i)) (hb4 : ∀ i, Real' (b4 i)) (j : Fin 1800) :
    Real' (val_main_v13 (F := Ideal) T W1 b1 W2 b2 W3 b3 W4 b4 (ix1 j)) := by
  have h2 (j) : Real' (val_main_v2 (F := Ideal) T (ix1 j)) := by
    rw [v2_at, v1_at]
    split
    · exact hT _
    · exact Real'.sum fun q => (hT _).mul (hT _)
  have h5 (j) : Real' (val_main_v5 (F := Ideal) T W1 b1 (ix1 j)) := by
    rw [v5_at, v3_at]
    exact ((Real'.sum fun k => (h2 k).mul (hW1 _)).add (hb1 _)).relu
  have h8 (j) : Real' (val_main_v8 (F := Ideal) T W1 b1 W2 b2 (ix1 j)) := by
    rw [v8_at, v6_at]
    exact ((Real'.sum fun k => (h5 k).mul (hW2 _)).add (hb2 _)).relu
  have h11 (j) : Real' (val_main_v11 (F := Ideal) T W1 b1 W2 b2 W3 b3 (ix1 j)) := by
    rw [v11_at, v9_at]
    exact ((Real'.sum fun k => (h8 k).mul (hW3 _)).add (hb3 _)).relu
  rw [v13_at, v12_at]
  exact (Real'.sum fun k => (h11 k).mul (hW4 _)).add (hb4 _)

end Cert.Coef
-- ==== Proof.Conforms.lean ====
/-
  The two programs' results agree: at real arguments each result of the kernel is the reference's, element by element, both
  being the same spectral convolution over the reals plus the same bias.
-/
module

public import proofs.«01_k».proof.Proof.KernelMats
public import proofs.«01_k».proof.Proof.ReferenceMats
public import proofs.«01_k».proof.Proof.Coef

@[expose] public section

set_option maxRecDepth 16384

noncomputable section

namespace Cert.Conforms

open Cert.KernelIdeal Cert.KernelIdeal.Gen Cert.KernelIdeal.Hand
open Cert.ReferenceIdeal.Read Cert.ReferenceIdeal.At
open Idealize.ShloMosaic
open Cert.Spectral Cert.Coef

/-- An index of a matrix is its two coordinates. -/
theorem idx2 {m n : Nat} (y : (⟨2, ![m, n]⟩ : Shape).Idx) : ∃ (a : Fin m) (b : Fin n), y = ix2 a b :=
  ⟨y 0, y 1, funext fun i => by match i with | 0 => rfl | 1 => rfl⟩

variable {x0 : FVec Ideal S5000x64 .f32} {x1 : FVec Ideal S5000x64 .f32} {x2 : FVec Ideal S30x30 .f32} {x3 : FVec Ideal S5000x30 .f32} {x4 : FVec Ideal S5000x30 .f32} {x5 : FVec Ideal S1800x1024 .f32} {x6 : FVec Ideal S1024 .f32} {x7 : FVec Ideal S1024x1024 .f32} {x8 : FVec Ideal S1024 .f32} {x9 : FVec Ideal S1024x1024 .f32} {x10 : FVec Ideal S1024 .f32} {x11 : FVec Ideal S1024x1800 .f32} {x12 : FVec Ideal S1800 .f32}

/-- The reference's coefficients of scale `s`, a real matrix. -/
theorem coefs_real (h2 : ∀ i, Real' (x2 i)) (h5 : ∀ i, Real' (x5 i)) (h6 : ∀ i, Real' (x6 i)) (h7 : ∀ i, Real' (x7 i)) (h8 : ∀ i, Real' (x8 i)) (h9 : ∀ i, Real' (x9 i)) (h10 : ∀ i, Real' (x10 i)) (h11 : ∀ i, Real' (x11 i)) (h12 : ∀ i, Real' (x12 i)) (s : Fin 2) :
    IsMat (fun k l => val_main_v13 (F := Ideal) x2 x5 x6 x7 x8 x9 x10 x11 x12 (ix1 (slot s k l)))
      (Matrix.of fun k l => (val_main_v13 (F := Ideal) x2 x5 x6 x7 x8 x9 x10 x11 x12 (ix1 (slot s k l))).toReal) :=
  isMat_of_real fun k l => coef_real x2 x5 x6 x7 x8 x9 x10 x11 x12 h2 h5 h6 h7 h8 h9 h10 h11 h12 (slot s k l)

/-- The kernel's coefficients of scale `s`: the same matrix. -/
theorem kernel_coefs {D : Matrix (Fin 30) (Fin 30) ℝ} (s : Fin 2)
    (h : IsMat (fun k l => val_main_v13 (F := Ideal) x2 x5 x6 x7 x8 x9 x10 x11 x12 (ix1 (slot s k l))) D) :
    IsMat (coefAt (coef x2 x5 (shapeCast S1x1024 x6 shapeCasts_S1024_S1x1024) x7 (shapeCast S1x1024 x8 shapeCasts_S1024_S1x1024) x9 (shapeCast S1x1024 x10 shapeCasts_S1024_S1x1024) x11 (shapeCast S1x1800 x12 shapeCasts_S1800_S1x1800)) s) D :=
  fun k l => (coef_eq x2 x5 x6 x7 x8 x9 x10 x11 x12 (slot s k l)).trans (h k l)

/-- Result 0. -/
theorem res0_eq {x13 : FVec Ideal S2x64x128 .f32} (x14 : FVec Ideal S1x128 .f32) (h0 : ∀ i, Real' (x0 i)) (h1 : ∀ i, Real' (x1 i)) (h2 : ∀ i, Real' (x2 i)) (h3 : ∀ i, Real' (x3 i)) (h4 : ∀ i, Real' (x4 i)) (h5 : ∀ i, Real' (x5 i)) (h6 : ∀ i, Real' (x6 i)) (h7 : ∀ i, Real' (x7 i)) (h8 : ∀ i, Real' (x8 i)) (h9 : ∀ i, Real' (x9 i)) (h10 : ∀ i, Real' (x10 i)) (h11 : ∀ i, Real' (x11 i)) (h12 : ∀ i, Real' (x12 i)) (h13 : ∀ i, Real' (x13 i)) :
    res0 x2 x3 x4 x0 x1 x5 (shapeCast S1x1024 x6 shapeCasts_S1024_S1x1024) x7 (shapeCast S1x1024 x8 shapeCasts_S1024_S1x1024) x9 (shapeCast S1x1024 x10 shapeCasts_S1024_S1x1024) x11 (shapeCast S1x1800 x12 shapeCasts_S1800_S1x1800) x13 x14
      = val_main_v82 (F := Ideal) x0 x1 x2 x3 x4 x5 x6 x7 x8 x9 x10 x11 x12 x13 x14 := by
  funext y
  obtain ⟨n, o, rfl⟩ := idx2 y
  have hQr := isMat_of_real fun (a : Fin 5000) (b : Fin 30) => h3 (ix2 a b)
  have hQi := isMat_of_real fun (a : Fin 5000) (b : Fin 30) => h4 (ix2 a b)
  have hxr := isMat_of_real fun (a : Fin 5000) (b : Fin 64) => h0 (ix2 a b)
  have hxi := isMat_of_real fun (a : Fin 5000) (b : Fin 64) => h1 (ix2 a b)
  have hW0 := isMat_of_real fun (a : Fin 64) (b : Fin 128) => h13 (ix3 0 a b)
  have hW1 := isMat_of_real fun (a : Fin 64) (b : Fin 128) => h13 (ix3 1 a b)
  have hD0 := coefs_real h2 h5 h6 h7 h8 h9 h10 h11 h12 0
  have hD1 := coefs_real h2 h5 h6 h7 h8 h9 h10 h11 h12 1
  exact (outR_real x14 hQr hQi hxr hxi (kernel_coefs 0 hD0) (kernel_coefs 1 hD1) hW0 hW1 n o).trans
    (real_at x14 hQr hQi hxr hxi hD0 hD1 hW0 hW1 n o).symm

/-- Result 1. -/
theorem res1_eq {x13 : FVec Ideal S2x64x128 .f32} (x14 : FVec Ideal S1x128 .f32) (h0 : ∀ i, Real' (x0 i)) (h1 : ∀ i, Real' (x1 i)) (h2 : ∀ i, Real' (x2 i)) (h3 : ∀ i, Real' (x3 i)) (h4 : ∀ i, Real' (x4 i)) (h5 : ∀ i, Real' (x5 i)) (h6 : ∀ i, Real' (x6 i)) (h7 : ∀ i, Real' (x7 i)) (h8 : ∀ i, Real' (x8 i)) (h9 : ∀ i, Real' (x9 i)) (h10 : ∀ i, Real' (x10 i)) (h11 : ∀ i, Real' (x11 i)) (h12 : ∀ i, Real' (x12 i)) (h13 : ∀ i, Real' (x13 i)) :
    res1 x2 x3 x4 x0 x1 x5 (shapeCast S1x1024 x6 shapeCasts_S1024_S1x1024) x7 (shapeCast S1x1024 x8 shapeCasts_S1024_S1x1024) x9 (shapeCast S1x1024 x10 shapeCasts_S1024_S1x1024) x11 (shapeCast S1x1800 x12 shapeCasts_S1800_S1x1800) x13 x14
      = val_main_v84 (F := Ideal) x0 x1 x2 x3 x4 x5 x6 x7 x8 x9 x10 x11 x12 x13 x14 := by
  funext y
  obtain ⟨n, o, rfl⟩ := idx2 y
  have hQr := isMat_of_real fun (a : Fin 5000) (b : Fin 30) => h3 (ix2 a b)
  have hQi := isMat_of_real fun (a : Fin 5000) (b : Fin 30) => h4 (ix2 a b)
  have hxr := isMat_of_real fun (a : Fin 5000) (b : Fin 64) => h0 (ix2 a b)
  have hxi := isMat_of_real fun (a : Fin 5000) (b : Fin 64) => h1 (ix2 a b)
  have hW0 := isMat_of_real fun (a : Fin 64) (b : Fin 128) => h13 (ix3 0 a b)
  have hW1 := isMat_of_real fun (a : Fin 64) (b : Fin 128) => h13 (ix3 1 a b)
  have hD0 := coefs_real h2 h5 h6 h7 h8 h9 h10 h11 h12 0
  have hD1 := coefs_real h2 h5 h6 h7 h8 h9 h10 h11 h12 1
  exact (outI_real x14 hQr hQi hxr hxi (kernel_coefs 0 hD0) (kernel_coefs 1 hD1) hW0 hW1 n o).trans
    (imag_at x14 hQr hQi hxr hxi hD0 hD1 hW0 hW1 n o).symm

/-- Equal arguments, equal results. -/
theorem v82_congr {y0 z0 : FVec Ideal S5000x64 .f32} {y1 z1 : FVec Ideal S5000x64 .f32} {y2 z2 : FVec Ideal S30x30 .f32} {y3 z3 : FVec Ideal S5000x30 .f32} {y4 z4 : FVec Ideal S5000x30 .f32} {y5 z5 : FVec Ideal S1800x1024 .f32} {y6 z6 : FVec Ideal S1024 .f32} {y7 z7 : FVec Ideal S1024x1024 .f32} {y8 z8 : FVec Ideal S1024 .f32} {y9 z9 : FVec Ideal S1024x1024 .f32} {y10 z10 : FVec Ideal S1024 .f32} {y11 z11 : FVec Ideal S1024x1800 .f32} {y12 z12 : FVec Ideal S1800 .f32} {y13 z13 : FVec Ideal S2x64x128 .f32} {y14 z14 : FVec Ideal S1x128 .f32}
    (e0 : y0 = z0) (e1 : y1 = z1) (e2 : y2 = z2) (e3 : y3 = z3) (e4 : y4 = z4) (e5 : y5 = z5) (e6 : y6 = z6) (e7 : y7 = z7) (e8 : y8 = z8) (e9 : y9 = z9) (e10 : y10 = z10) (e11 : y11 = z11) (e12 : y12 = z12) (e13 : y13 = z13) (e14 : y14 = z14) :
    val_main_v82 (F := Ideal) y0 y1 y2 y3 y4 y5 y6 y7 y8 y9 y10 y11 y12 y13 y14 = val_main_v82 (F := Ideal) z0 z1 z2 z3 z4 z5 z6 z7 z8 z9 z10 z11 z12 z13 z14 := by
  subst e0 e1 e2 e3 e4 e5 e6 e7 e8 e9 e10 e11 e12 e13 e14; rfl

/-- Equal arguments, equal results. -/
theorem v84_congr {y0 z0 : FVec Ideal S5000x64 .f32} {y1 z1 : FVec Ideal S5000x64 .f32} {y2 z2 : FVec Ideal S30x30 .f32} {y3 z3 : FVec Ideal S5000x30 .f32} {y4 z4 : FVec Ideal S5000x30 .f32} {y5 z5 : FVec Ideal S1800x1024 .f32} {y6 z6 : FVec Ideal S1024 .f32} {y7 z7 : FVec Ideal S1024x1024 .f32} {y8 z8 : FVec Ideal S1024 .f32} {y9 z9 : FVec Ideal S1024x1024 .f32} {y10 z10 : FVec Ideal S1024 .f32} {y11 z11 : FVec Ideal S1024x1800 .f32} {y12 z12 : FVec Ideal S1800 .f32} {y13 z13 : FVec Ideal S2x64x128 .f32} {y14 z14 : FVec Ideal S1x128 .f32}
    (e0 : y0 = z0) (e1 : y1 = z1) (e2 : y2 = z2) (e3 : y3 = z3) (e4 : y4 = z4) (e5 : y5 = z5) (e6 : y6 = z6) (e7 : y7 = z7) (e8 : y8 = z8) (e9 : y9 = z9) (e10 : y10 = z10) (e11 : y11 = z11) (e12 : y12 = z12) (e13 : y13 = z13) (e14 : y14 = z14) :
    val_main_v84 (F := Ideal) y0 y1 y2 y3 y4 y5 y6 y7 y8 y9 y10 y11 y12 y13 y14 = val_main_v84 (F := Ideal) z0 z1 z2 z3 z4 z5 z6 z7 z8 z9 z10 z11 z12 z13 z14 := by
  subst e0 e1 e2 e3 e4 e5 e6 e7 e8 e9 e10 e11 e12 e13 e14; rfl

end Cert.Conforms
-- ==== Proof.Finite.lean ====
/-
  The precondition read back: it says of every array but the last bias that each element's absolute value is below infinity,
  so each element is a real number.
-/
module

public import proofs.«01_k».proof.Proof.Gen.Pre_finite_args
public import proofs.«01_k».proof.Proof.Spectral
public import Idealize.ShloMosaic.Lib.ReduceAll
public import Idealize.ShloMosaic.Lib.Pointwise

@[expose] public section

set_option maxRecDepth 16384

noncomputable section

namespace Cert.Pre_finite_args

open Idealize.ShloMosaic
open Cert.Spectral

/-- The binary32 word of infinity. -/
theorem inf_eq : Ideal.ofBits FTy.f32 0x7F800000#32 = ⊤ := by simp [Ideal.ofBits, Ideal.ieee]

/-- One element of one array's test. -/
theorem real_of_test {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) : Real' (x i) := by
  have h : Ideal.cmp .olt (max (x i : EReal) (-(x i : EReal))) (Ideal.ofBits .f32 0x7F800000#32) = 1#1 := e
  rw [inf_eq] at h
  refine real_of_abs_lt ?_
  by_contra hn
  have h' : BitVec.ofBool (decide (max (x i : EReal) (-(x i : EReal)) < ⊤)) = 1#1 := h
  rw [decide_eq_false hn] at h'
  exact absurd h' (by decide)

/-- One array's test. -/
theorem real_of_all {s : Shape} {axes : List (Fin s.rank)} (x : FVec Ideal s .f32) (hb : S_.BroadcastsInDim s (![] : Fin 0 → Fin s.rank)) (hr : s.ReducesTo axes S_) (hu)
    (j : S_.Idx)
    (e : Host.reduce IntOp.andi (cmpf .olt (Host.absf x) (broadcastInDim s ![] hb (constant (F := Ideal) S_ .f32 0x7F800000#32))) (constantI S_ 1 1#1) hr hu j = 1#1) (i : s.Idx) :
    Real' (x i) :=
  haveI : Subsingleton S_.Idx := ⟨fun a b => funext fun q => q.elim0⟩
  real_of_test x hb i (Host.reduce_andi_all _ _ _ _ j e i)

variable [Facts]

/-- All tests. -/
theorem reals (x0 x1 : FVec Ideal S5000x64 .f32) (x2 : FVec Ideal S30x30 .f32) (x3 x4 : FVec Ideal S5000x30 .f32) (x5 : FVec Ideal S1800x1024 .f32)
    (x6 : FVec Ideal S1024 .f32) (x7 : FVec Ideal S1024x1024 .f32) (x8 : FVec Ideal S1024 .f32) (x9 : FVec Ideal S1024x1024 .f32) (x10 : FVec Ideal S1024 .f32)
    (x11 : FVec Ideal S1024x1800 .f32) (x12 : FVec Ideal S1800 .f32) (x13 : FVec Ideal S2x64x128 .f32) (x14 : FVec Ideal S1x128 .f32) (j : S_.Idx)
    (h : fn (F := Ideal) x0 x1 x2 x3 x4 x5 x6 x7 x8 x9 x10 x11 x12 x13 x14 j = 1#1) :
    (∀ i, Real' (x0 i)) ∧ (∀ i, Real' (x1 i)) ∧ (∀ i, Real' (x2 i)) ∧ (∀ i, Real' (x3 i)) ∧ (∀ i, Real' (x4 i)) ∧ (∀ i, Real' (x5 i)) ∧ (∀ i, Real' (x6 i))
      ∧ (∀ i, Real' (x7 i)) ∧ (∀ i, Real' (x8 i)) ∧ (∀ i, Real' (x9 i)) ∧ (∀ i, Real' (x10 i)) ∧ (∀ i, Real' (x11 i)) ∧ (∀ i, Real' (x12 i)) ∧ ∀ i, Real' (x13 i) := by
  obtain ⟨h, h13⟩ := IntOp.andi_eq_one.mp h
  obtain ⟨h, h12⟩ := IntOp.andi_eq_one.mp h
  obtain ⟨h, h11⟩ := IntOp.andi_eq_one.mp h
  obtain ⟨h, h10⟩ := IntOp.andi_eq_one.mp h
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨real_of_all x0 _ _ _ j h0, real_of_all x1 _ _ _ j h1, real_of_all x2 _ _ _ j h2, real_of_all x3 _ _ _ j h3, real_of_all x4 _ _ _ j h4,
    real_of_all x5 _ _ _ j h5, real_of_all x6 _ _ _ j h6, real_of_all x7 _ _ _ j h7, real_of_all x8 _ _ _ j h8, real_of_all x9 _ _ _ j h9,
    real_of_all x10 _ _ _ j h10, real_of_all x11 _ _ _ j h11, real_of_all x12 _ _ _ j h12, real_of_all x13 _ _ _ j h13⟩

end Cert.Pre_finite_args
-- ==== Proof.lean ====
/-
  The proof of `Cert.Claim` (proofs.«01_k».proof.Defs).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_args
public import proofs.«01_k».proof.Proof.KernelFrame
public import proofs.«01_k».proof.Proof.KernelIdealRun
public import proofs.«01_k».proof.Proof.Conforms
public import proofs.«01_k».proof.Proof.Finite
public import Idealize.ShloMosaic.Adequacy
public import Idealize.ShloMosaic.Init

@[expose] public section

set_option maxRecDepth 16384

noncomputable section

namespace Cert.Proof

open Idealize.ShloMosaic Idealize.SL.Sem

/-- The kernel's frame. -/
theorem quiescentKernel : Cert.quiescent_Kernel := fun m ρ _ => Cert.Kernel.Hand.frame (F := Bits) m ρ

/-- The idealized kernel's frame. -/
theorem quiescentKernelIdeal : Cert.quiescent_KernelIdeal := fun m ρ _ => Cert.KernelIdeal.Hand.frame (F := Ideal) m ρ

/-- The reference is a straight-line host program that declares no semaphore. -/
theorem quiescentReferenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same, under the precondition. -/
theorem quiescentKernelIdealPre : Cert.quiescent_KernelIdeal_pre_finite_args (hPre_finite_args := Cert.Pre_finite_args.Gen.facts) :=
  fun m ρ _ => quiescentKernelIdeal m ρ trivial

/-- The same, under the precondition. -/
theorem quiescentReferenceIdealPre : Cert.quiescent_ReferenceIdeal_pre_finite_args (hPre_finite_args := Cert.Pre_finite_args.Gen.facts) :=
  fun m ρ _ => quiescentReferenceIdeal m ρ trivial

/-- At finite arguments the idealized kernel and the reference leave the same two results. -/
theorem algebraic : Cert.algebraic_KernelIdeal_ReferenceIdeal_pre_finite_args (hPre_finite_args := Cert.Pre_finite_args.Gen.facts) := by
  intro m ρ m' ρ' hpre hag
  refine ⟨fun c => Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.ReferenceIdeal.Read.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    (θ_run Cert.KernelIdeal.defs _ _).mono (fun r h c => ?_) (Cert.KernelIdeal.Hand.run (F := Ideal) m ρ),
    (θ_run Cert.ReferenceIdeal.defs _ _).mono (fun r h c => ?_) (Cert.ReferenceIdeal.Value.run (F := Ideal) m' ρ')⟩
  · obtain ⟨h0, h1, h2, h3, h4, h5, h6, h7, h8, h9, h10, h11, h12, h13⟩ :=
      @Cert.Pre_finite_args.reals Cert.Pre_finite_args.Gen.facts _ _ _ _ _ _ _ _ _ _ _ _ _ _ _ (fun q => q.elim0) (congrFun (hpre c) _)
    refine ⟨((h.1 c).1).trans ?_, ((h.1 c).2.1).trans ?_, (h.1 c).2.2⟩
    · exact Cert.Conforms.res0_eq _ h0 h1 h2 h3 h4 h5 h6 h7 h8 h9 h10 h11 h12 h13
    · exact Cert.Conforms.res1_eq _ h0 h1 h2 h3 h4 h5 h6 h7 h8 h9 h10 h11 h12 h13
  · obtain ⟨a0, a1, a2, a3, a4, a5, a6, a7, a8, a9, a10, a11, a12, a13, a14⟩ := hag c
    refine ⟨((h c).1).trans ?_, ((h c).2.1).trans ?_, (h c).2.2⟩
    · exact (Cert.ReferenceIdeal.Read.val_main_v82_eq (F := Ideal) m' c).trans (Cert.Conforms.v82_congr a0 a1 a2 a3 a4 a5 a6 a7 a8 a9 a10 a11 a12 a13 a14)
    · exact (Cert.ReferenceIdeal.Read.val_main_v84_eq (F := Ideal) m' c).trans (Cert.Conforms.v84_congr a0 a1 a2 a3 a4 a5 a6 a7 a8 a9 a10 a11 a12 a13 a14)

theorem claim : Cert.Claim := ⟨Cert.Kernel.Gen.facts, Cert.KernelIdeal.Gen.facts, Cert.ReferenceIdeal.Gen.facts, Cert.Pre_finite_args.Gen.facts,
  quiescentKernel, quiescentKernelIdeal, quiescentKernelIdealPre, quiescentReferenceIdeal, quiescentReferenceIdealPre, trivial, algebraic⟩

end Cert.Proof

end
